-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_unbiased [hPre_finite_unbiased : Cert.Pre_finite_unbiased.Facts] (m : (ℓ : Loc Cert.KernelIdeal.nD Cert.KernelIdeal.τ Cert.KernelIdeal.sig) → Buf (Elt Ideal) ℓ) : Prop :=
  ∀ c : Dev Cert.KernelIdeal.nD,
    (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_unbiased.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_unbiased [hPre_finite_unbiased : Cert.Pre_finite_unbiased.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_unbiased.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_unbiased [hKernelIdeal : Cert.KernelIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_unbiased m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_unbiased [hReferenceIdeal : Cert.ReferenceIdeal.Facts] [hPre_finite_unbiased : Cert.Pre_finite_unbiased.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_unbiased m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_unbiased [hKernelIdeal : Cert.KernelIdeal.Facts] [hReferenceIdeal : Cert.ReferenceIdeal.Facts] [hPre_finite_unbiased : Cert.Pre_finite_unbiased.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_unbiased m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_unbiased : Cert.Pre_finite_unbiased.Facts),
    quiescent_Kernel (hKernel := hKernel)
    ∧ quiescent_KernelIdeal (hKernelIdeal := hKernelIdeal)
    ∧ quiescent_KernelIdeal_pre_finite_unbiased (hKernelIdeal := hKernelIdeal) (hPre_finite_unbiased := hPre_finite_unbiased)
    ∧ quiescent_ReferenceIdeal (hReferenceIdeal := hReferenceIdeal)
    ∧ quiescent_ReferenceIdeal_pre_finite_unbiased (hReferenceIdeal := hReferenceIdeal) (hPre_finite_unbiased := hPre_finite_unbiased)
    ∧ preserves_Kernel_KernelIdeal
    ∧ algebraic_KernelIdeal_ReferenceIdeal_pre_finite_unbiased (hKernelIdeal := hKernelIdeal) (hReferenceIdeal := hReferenceIdeal) (hPre_finite_unbiased := hPre_finite_unbiased)
-- ==== Pre_finite_unbiased.lean ====
abbrev S2x4096x768 : Shape := ⟨3, ![2, 4096, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3 : Shape := ⟨1, ![3]⟩
abbrev S_ : Shape := ⟨0, ![]⟩

class Facts : Prop where
  bcast_S_S2x4096x768 : S_.BroadcastsInDim S2x4096x768 (![] : Fin 0 → Fin S2x4096x768.rank)
  bcast_S_S2304x768 : S_.BroadcastsInDim S2304x768 (![] : Fin 0 → Fin S2304x768.rank)
  bcast_S_S2304 : S_.BroadcastsInDim S2304 (![] : Fin 0 → Fin S2304.rank)
  bcast_S_S3 : S_.BroadcastsInDim S3 (![] : Fin 0 → Fin S3.rank)

variable [Facts]

def fn {F : FTy → Type} [FloatOps F] (main_arg0 : FVec F S2x4096x768 .f32) (main_arg1 : FVec F S2304x768 .f32) (main_arg2 : FVec F S2304 .f32) (main_arg3 : FVec F S768x768 .f32) (main_arg4 : FVec F S768 .f32) (main_arg5 : FVec F S3 .f32) : IVec S2x4096x768 1 × IVec S2304x768 1 × IVec S2304 1 × IVec S3 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_v3 : FVec F S2304x768 .f32 := Host.absf main_arg1
  let main_cst_0 : FVec F S_ .f32 := constant S_ .f32 0x7F800000#32
  let main_v4 : FVec F S2304x768 .f32 := broadcastInDim S2304x768 ![] bcast_S_S2304x768 main_cst_0
  let main_v5 : IVec S2304x768 1 := cmpf .olt main_v3 main_v4
  let main_cst_1 : FVec F S_ .f32 := constant S_ .f32 0x00000000#32
  let main_v6 : FVec F S2304 .f32 := broadcastInDim S2304 ![] bcast_S_S2304 main_cst_1
  let main_v7 : IVec S2304 1 := cmpf .oeq main_arg2 main_v6
  let main_v8 : FVec F S3 .f32 := Host.absf main_arg5
  let main_cst_2 : FVec F S_ .f32 := constant S_ .f32 0x7F800000#32
  let main_v9 : FVec F S3 .f32 := broadcastInDim S3 ![] bcast_S_S3 main_cst_2
  let main_v10 : IVec S3 1 := cmpf .olt main_v8 main_v9
  (main_v2, main_v5, main_v7, main_v10)
-- ==== Kernel.lean ====
abbrev S2x4096x768 : Shape := ⟨3, ![2, 4096, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3 : Shape := ⟨1, ![3]⟩
abbrev S2x1x768 : Shape := ⟨3, ![2, 1, 768]⟩
abbrev S2x16x768 : Shape := ⟨3, ![2, 16, 768]⟩
abbrev S_ : Shape := ⟨0, ![]⟩
abbrev S2x14x768 : Shape := ⟨3, ![2, 14, 768]⟩
abbrev S1x768 : Shape := ⟨2, ![1, 768]⟩
abbrev S1x3 : Shape := ⟨2, ![1, 3]⟩
abbrev S1x1024x768 : Shape := ⟨3, ![1, 1024, 768]⟩
abbrev S2x1072x768 : Shape := ⟨3, ![2, 1072, 768]⟩
abbrev S2x4 : Shape := ⟨2, ![2, 4]⟩
abbrev S1x1 : Shape := ⟨2, ![1, 1]⟩
abbrev S1024x768 : Shape := ⟨2, ![1024, 768]⟩
abbrev S1x16x768 : Shape := ⟨3, ![1, 16, 768]⟩
abbrev S16x768 : Shape := ⟨2, ![16, 768]⟩
abbrev S1x1072x768 : Shape := ⟨3, ![1, 1072, 768]⟩
abbrev S1072x768 : Shape := ⟨2, ![1072, 768]⟩
abbrev S1 : Shape := ⟨1, ![1]⟩
abbrev S768x16 : Shape := ⟨2, ![768, 16]⟩
abbrev S1024x16 : Shape := ⟨2, ![1024, 16]⟩

abbrev nBuf : Space → Nat
  | .hbm => 21
  | .vmem => 9
  | .smem => 0
  | _ => 0

abbrev bufTy : (tb : Table) → Fin (tcTables nBuf tb) → BufTy
  | .hbm, ⟨0, _⟩ => ⟨S2x4096x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S3, .f32⟩
  | .hbm, ⟨6, _⟩ => ⟨S2x1x768, .f32⟩
  | .hbm, ⟨7, _⟩ => ⟨S2x16x768, .f32⟩
  | .hbm, ⟨8, _⟩ => ⟨S2x1x768, .f32⟩
  | .hbm, ⟨9, _⟩ => ⟨S2x16x768, .f32⟩
  | .hbm, ⟨10, _⟩ => ⟨S2x1x768, .f32⟩
  | .hbm, ⟨11, _⟩ => ⟨S2x1x768, .f32⟩
  | .hbm, ⟨12, _⟩ => ⟨S_, .f32⟩
  | .hbm, ⟨13, _⟩ => ⟨S2x14x768, .f32⟩
  | .hbm, ⟨14, _⟩ => ⟨S2x16x768, .f32⟩
  | .hbm, ⟨15, _⟩ => ⟨S768x768, .f32⟩
  | .hbm, ⟨16, _⟩ => ⟨S768x768, .f32⟩
  | .hbm, ⟨17, _⟩ => ⟨S768x768, .f32⟩
  | .hbm, ⟨18, _⟩ => ⟨S1x768, .f32⟩
  | .hbm, ⟨19, _⟩ => ⟨S1x3, .f32⟩
  | .hbm, ⟨20, _⟩ => ⟨S2x4096x768, .f32⟩
  | .local _ .vmem, ⟨0, _⟩ => ⟨S768x768, .f32⟩
  | .local _ .vmem, ⟨1, _⟩ => ⟨S768x768, .f32⟩
  | .local _ .vmem, ⟨2, _⟩ => ⟨S768x768, .f32⟩
  | .local _ .vmem, ⟨3, _⟩ => ⟨S768x768, .f32⟩
  | .local _ .vmem, ⟨4, _⟩ => ⟨S1x768, .f32⟩
  | .local _ .vmem, ⟨5, _⟩ => ⟨S1x3, .f32⟩
  | .local _ .vmem, ⟨6, _⟩ => ⟨S1x1024x768, .f32⟩
  | .local _ .vmem, ⟨7, _⟩ => ⟨S1x1024x768, .f32⟩
  | .local _ .vmem, ⟨8, _⟩ => ⟨S2x1072x768, .f32⟩
  | _, _ => ⟨S2x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem6_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

def k0_off1 (i : grid0.Coords) : Fin 3 → Nat :=
  let arg0 : BitVec 32 := BitVec.ofNat 32 (i 0).val
  let c0_i32_90 : BitVec 32 := 0#32
  let c0_i32_91 : BitVec 32 := 0#32
  ![arg0.toNat, 0, 0]
def k0_off2 (i : grid0.Coords) : Fin 3 → Nat :=
  let arg0 : BitVec 32 := BitVec.ofNat 32 (i 0).val
  let c0_i32_97 : BitVec 32 := 0#32
  let c0_i32_98 : BitVec 32 := 0#32
  ![arg0.toNat, 0, 0]
def k0_off3 (i : grid0.Coords) : Fin 3 → Nat :=
  let arg0 : BitVec 32 := BitVec.ofNat 32 (i 0).val
  let c1024_i32 : BitVec 32 := 1024#32
  let c0_i32_111 : BitVec 32 := 0#32
  ![arg0.toNat, 1024, 0]
def k0_cond2 (i : grid0.Coords) : BitVec 1 :=
  let arg1 : BitVec 32 := BitVec.ofNat 32 (i 1).val
  let c1_i32 : BitVec 32 := 1#32
  let v4 : BitVec 32 := Scalar.addi arg1 c1_i32
  let c4_i32 : BitVec 32 := 4#32
  let v5 : BitVec 1 := Scalar.cmpi .slt v4 c4_i32
  let v6 : BitVec 32 := Scalar.extui v5
  let c0_i32_1 : BitVec 32 := 0#32
  let v7 : BitVec 1 := Scalar.cmpi .ne v6 c0_i32_1
  v7

def k0_off4 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c0_i32_88 : BitVec 32 := 0#32
  ![v287.toNat, 0]
def k0_off5 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c16_i32_89 : BitVec 32 := 16#32
  let c0_i32_90 : BitVec 32 := 0#32
  ![v287.toNat, 16, 0]
def k0_off6 (i : grid0.Coords) : Fin 3 → Nat :=
  let arg0 : BitVec 32 := BitVec.ofNat 32 (i 0).val
  let arg1 : BitVec 32 := BitVec.ofNat 32 (i 1).val
  let c1_i32_85 : BitVec 32 := 1#32
  let v285 : BitVec 32 := Scalar.addi arg1 c1_i32_85
  let c1024_i32 : BitVec 32 := 1024#32
  let v288 : BitVec 32 := Scalar.muli v285 c1024_i32
  let c0_i32_91 : BitVec 32 := 0#32
  ![arg0.toNat, v288.toNat, 0]
def k0_off7 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c3_i32_92 : BitVec 32 := 3#32
  ![v287.toNat, 3]
def k0_off8 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c1056_i32_93 : BitVec 32 := 1056#32
  let c0_i32_94 : BitVec 32 := 0#32
  ![v287.toNat, 1056, 0]
def k0_off9 (i : grid0.Coords) : Fin 3 → Nat :=
  let arg0 : BitVec 32 := BitVec.ofNat 32 (i 0).val
  let c0_i32_95 : BitVec 32 := 0#32
  let c0_i32_96 : BitVec 32 := 0#32
  ![arg0.toNat, 0, 0]
def k0_cond3 (i : grid0.Coords) : BitVec 1 :=
  let arg1 : BitVec 32 := BitVec.ofNat 32 (i 1).val
  let c1_i32_85 : BitVec 32 := 1#32
  let v285 : BitVec 32 := Scalar.addi arg1 c1_i32_85
  let c0_i32_97 : BitVec 32 := 0#32
  let v301 : BitVec 1 := Scalar.cmpi .eq v285 c0_i32_97
  let v302 : BitVec 32 := Scalar.extui v301
  let c0_i32_98 : BitVec 32 := 0#32
  let v303 : BitVec 1 := Scalar.cmpi .ne v302 c0_i32_98
  v303

def k0_off10 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c1_i32_105 : BitVec 32 := 1#32
  ![v287.toNat, 1]
def k0_off11 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c0_i32_106 : BitVec 32 := 0#32
  let c0_i32_107 : BitVec 32 := 0#32
  ![v287.toNat, 0, 0]
def k0_off12 (i : grid0.Coords) : Fin 3 → Nat :=
  let arg0 : BitVec 32 := BitVec.ofNat 32 (i 0).val
  let c0_i32_108 : BitVec 32 := 0#32
  let c0_i32_109 : BitVec 32 := 0#32
  ![arg0.toNat, 0, 0]
def k0_cond4 (i : grid0.Coords) : BitVec 1 :=
  let arg1 : BitVec 32 := BitVec.ofNat 32 (i 1).val
  let c1_i32_85 : BitVec 32 := 1#32
  let v285 : BitVec 32 := Scalar.addi arg1 c1_i32_85
  let c0_i32_99 : BitVec 32 := 0#32
  let v304 : BitVec 1 := Scalar.cmpi .sgt v285 c0_i32_99
  let v305 : BitVec 32 := Scalar.extui v304
  let c0_i32_100 : BitVec 32 := 0#32
  let v306 : BitVec 1 := Scalar.cmpi .ne v305 c0_i32_100
  v306

def k0_off13 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c1_i32_107 : BitVec 32 := 1#32
  ![v287.toNat, 1]
def k0_off14 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c0_i32_108 : BitVec 32 := 0#32
  let c0_i32_109 : BitVec 32 := 0#32
  ![v287.toNat, 0, 0]
def k0_off15 (i : grid0.Coords) : Fin 3 → Nat :=
  let arg0 : BitVec 32 := BitVec.ofNat 32 (i 0).val
  let arg1 : BitVec 32 := BitVec.ofNat 32 (i 1).val
  let c1_i32_85 : BitVec 32 := 1#32
  let v285 : BitVec 32 := Scalar.addi arg1 c1_i32_85
  let c1024_i32_105 : BitVec 32 := 1024#32
  let v313 : BitVec 32 := Scalar.muli v285 c1024_i32_105
  let c16_i32_106 : BitVec 32 := 16#32
  let v314 : BitVec 32 := Scalar.subi v313 c16_i32_106
  let c0_i32_110 : BitVec 32 := 0#32
  ![arg0.toNat, v314.toNat, 0]
def k0_cond5 (i : grid0.Coords) : BitVec 1 :=
  let arg1 : BitVec 32 := BitVec.ofNat 32 (i 1).val
  let c1_i32_85 : BitVec 32 := 1#32
  let v285 : BitVec 32 := Scalar.addi arg1 c1_i32_85
  let c3_i32_101 : BitVec 32 := 3#32
  let v307 : BitVec 1 := Scalar.cmpi .eq v285 c3_i32_101
  let v308 : BitVec 32 := Scalar.extui v307
  let c0_i32_102 : BitVec 32 := 0#32
  let v309 : BitVec 1 := Scalar.cmpi .ne v308 c0_i32_102
  v309

def k0_off16 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c2_i32_105 : BitVec 32 := 2#32
  ![v287.toNat, 2]
def k0_off17 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c1040_i32_106 : BitVec 32 := 1040#32
  let c0_i32_107 : BitVec 32 := 0#32
  ![v287.toNat, 1040, 0]
def k0_off18 (i : grid0.Coords) : Fin 3 → Nat :=
  let arg0 : BitVec 32 := BitVec.ofNat 32 (i 0).val
  let c0_i32_108 : BitVec 32 := 0#32
  let c0_i32_109 : BitVec 32 := 0#32
  ![arg0.toNat, 0, 0]
def k0_cond6 (i : grid0.Coords) : BitVec 1 :=
  let arg1 : BitVec 32 := BitVec.ofNat 32 (i 1).val
  let c1_i32_85 : BitVec 32 := 1#32
  let v285 : BitVec 32 := Scalar.addi arg1 c1_i32_85
  let c3_i32_103 : BitVec 32 := 3#32
  let v310 : BitVec 1 := Scalar.cmpi .slt v285 c3_i32_103
  let v311 : BitVec 32 := Scalar.extui v310
  let c0_i32_104 : BitVec 32 := 0#32
  let v312 : BitVec 1 := Scalar.cmpi .ne v311 c0_i32_104
  v312

def k0_off19 (i : grid0.Coords) : Fin 2 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c2_i32_107 : BitVec 32 := 2#32
  ![v287.toNat, 2]
def k0_off20 (i : grid0.Coords) : Fin 3 → Nat :=
  let arg1 : BitVec 32 := BitVec.ofNat 32 (i 1).val
  let c1_i32_86 : BitVec 32 := 1#32
  let v286 : BitVec 32 := Scalar.addi arg1 c1_i32_86
  let c2_i32_87 : BitVec 32 := 2#32
  let v287 : BitVec 32 := Scalar.remsi v286 c2_i32_87
  let c1040_i32_108 : BitVec 32 := 1040#32
  let c0_i32_109 : BitVec 32 := 0#32
  ![v287.toNat, 1040, 0]
def k0_off21 (i : grid0.Coords) : Fin 3 → Nat :=
  let arg0 : BitVec 32 := BitVec.ofNat 32 (i 0).val
  let arg1 : BitVec 32 := BitVec.ofNat 32 (i 1).val
  let c1_i32_85 : BitVec 32 := 1#32
  let v285 : BitVec 32 := Scalar.addi arg1 c1_i32_85
  let c1024_i32_105 : BitVec 32 := 1024#32
  let v313 : BitVec 32 := Scalar.muli v285 c1024_i32_105
  let c1024_i32_106 : BitVec 32 := 1024#32
  let v314 : BitVec 32 := Scalar.addi v313 c1024_i32_106
  let c0_i32_110 : BitVec 32 := 0#32
  ![arg0.toNat, v314.toNat, 0]
def k0_off22 (i : grid0.Coords) : Fin 2 → Nat :=
  let arg1 : BitVec 32 := BitVec.ofNat 32 (i 1).val
  let c2_i32 : BitVec 32 := 2#32
  let v0 : BitVec 32 := Scalar.remsi arg1 c2_i32
  let c0_i32_2 : BitVec 32 := 0#32
  ![v0.toNat, 0]
def k0_off23 (i : grid0.Coords) : Fin 3 → Nat :=
  let arg1 : BitVec 32 := BitVec.ofNat 32 (i 1).val
  let c2_i32 : BitVec 32 := 2#32
  let v0 : BitVec 32 := Scalar.remsi arg1 c2_i32
  let c16_i32 : BitVec 32 := 16#32
  let c0_i32_3 : BitVec 32 := 0#32
  ![v0.toNat, 16, 0]
def k0_off24 (i : grid0.Coords) : Fin 3 → Nat :=
  let arg0 : BitVec 32 := BitVec.ofNat 32 (i 0).val
  let c0_i32_4 : BitVec 32 := 0#32
  let c0_i32_5 : BitVec 32 := 0#32
  ![arg0.toNat, 0, 0]
def k0_off25 (i : grid0.Coords) : Fin 2 → Nat :=
  let arg1 : BitVec 32 := BitVec.ofNat 32 (i 1).val
  let c2_i32 : BitVec 32 := 2#32
  let v0 : BitVec 32 := Scalar.remsi arg1 c2_i32
  let c3_i32 : BitVec 32 := 3#32
  ![v0.toNat, 3]
def k0_off26 (i : grid0.Coords) : Fin 3 → Nat :=
  let arg1 : BitVec 32 := BitVec.ofNat 32 (i 1).val
  let c2_i32 : BitVec 32 := 2#32
  let v0 : BitVec 32 := Scalar.remsi arg1 c2_i32
  let c1056_i32 : BitVec 32 := 1056#32
  let c0_i32_6 : BitVec 32 := 0#32
  ![v0.toNat, 1056, 0]
def k0_off27 (i : grid0.Coords) : Fin 3 → Nat :=
  let arg0 : BitVec 32 := BitVec.ofNat 32 (i 0).val
  let c0_i32_7 : BitVec 32 := 0#32
  let c0_i32_8 : BitVec 32 := 0#32
  ![arg0.toNat, 0, 0]
def k0_off28 (i : grid0.Coords) : Fin 2 → Nat :=
  let arg1 : BitVec 32 := BitVec.ofNat 32 (i 1).val
  let c2_i32 : BitVec 32 := 2#32
  let v0 : BitVec 32 := Scalar.remsi arg1 c2_i32
  let c1_i32_9 : BitVec 32 := 1#32
  ![v0.toNat, 1]
def k0_off29 (i : grid0.Coords) : Fin 3 → Nat :=
  let arg1 : BitVec 32 := BitVec.ofNat 32 (i 1).val
  let c2_i32 : BitVec 32 := 2#32
  let v0 : BitVec 32 := Scalar.remsi arg1 c2_i32
  let c0_i32_10 : BitVec 32 := 0#32
  let c0_i32_11 : BitVec 32 := 0#32
  ![v0.toNat, 0, 0]
def k0_off30 (i : grid0.Coords) : Fin 3 → Nat :=
  let arg0 : BitVec 32 := BitVec.ofNat 32 (i 0).val
  let c0_i32_12 : BitVec 32 := 0#32
  let c0_i32_13 : BitVec 32 := 0#32
  ![arg0.toNat, 0, 0]
def k0_off31 (i : grid0.Coords) : Fin 2 → Nat :=
  let arg1 : BitVec 32 := BitVec.ofNat 32 (i 1).val
  let c2_i32 : BitVec 32 := 2#32
  let v0 : BitVec 32 := Scalar.remsi arg1 c2_i32
  let c2_i32_14 : BitVec 32 := 2#32
  ![v0.toNat, 2]
def k0_off32 (i : grid0.Coords) : Fin 3 → Nat :=
  let arg1 : BitVec 32 := BitVec.ofNat 32 (i 1).val
  let c2_i32 : BitVec 32 := 2#32
  let v0 : BitVec 32 := Scalar.remsi arg1 c2_i32
  let c1040_i32 : BitVec 32 := 1040#32
  let c0_i32_15 : BitVec 32 := 0#32
  ![v0.toNat, 1040, 0]
def k0_off33 (i : grid0.Coords) : Fin 3 → Nat :=
  let arg1 : BitVec 32 := BitVec.ofNat 32 (i 1).val
  let c2_i32 : BitVec 32 := 2#32
  let v0 : BitVec 32 := Scalar.remsi arg1 c2_i32
  let c0_i32_18 : BitVec 32 := 0#32
  let c0_i32_19 : BitVec 32 := 0#32
  ![v0.toNat, 0, 0]
def k0_off34 (i : grid0.Coords) : Fin 3 → Nat :=
  let arg1 : BitVec 32 := BitVec.ofNat 32 (i 1).val
  let c2_i32 : BitVec 32 := 2#32
  let v0 : BitVec 32 := Scalar.remsi arg1 c2_i32
  let v38 : Index := Scalar.indexCast v0
  let c0_22 : Index := 0#32
  let c0_23 : Index := 0#32
  ![v38.toNat, 0, 0]
def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S768x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S2x4096x768 : Shape := ⟨3, ![2, 4096, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S3 : Shape := ⟨1, ![3]⟩
abbrev S768x2304 : Shape := ⟨2, ![768, 2304]⟩
abbrev S2x4096x2304 : Shape := ⟨3, ![2, 4096, 2304]⟩
abbrev S1x1x2304 : Shape := ⟨3, ![1, 1, 2304]⟩
abbrev S2x4096x3x12x64 : Shape := ⟨5, ![2, 4096, 3, 12, 64]⟩
abbrev S3x2x12x4096x64 : Shape := ⟨5, ![3, 2, 12, 4096, 64]⟩
abbrev S1x2x12x4096x64 : Shape := ⟨5, ![1, 2, 12, 4096, 64]⟩
abbrev S2x12x4096x64 : Shape := ⟨4, ![2, 12, 4096, 64]⟩
abbrev S4096 : Shape := ⟨1, ![4096]⟩
abbrev S_ : Shape := ⟨0, ![]⟩
abbrev S4096x1 : Shape := ⟨2, ![4096, 1]⟩
abbrev S4096x12 : Shape := ⟨2, ![4096, 12]⟩
abbrev S24x4096x64 : Shape := ⟨3, ![24, 4096, 64]⟩
abbrev S4096x12x1 : Shape := ⟨3, ![4096, 12, 1]⟩
abbrev S1 : Shape := ⟨1, ![1]⟩
abbrev S1x1x1 : Shape := ⟨3, ![1, 1, 1]⟩
abbrev S24x4096x12x64 : Shape := ⟨4, ![24, 4096, 12, 64]⟩
abbrev S24x4096x12 : Shape := ⟨3, ![24, 4096, 12]⟩
abbrev S1x6 : Shape := ⟨2, ![1, 6]⟩
abbrev S6 : Shape := ⟨1, ![6]⟩
abbrev S1x4 : Shape := ⟨2, ![1, 4]⟩
abbrev S4 : Shape := ⟨1, ![4]⟩
abbrev S1x2 : Shape := ⟨2, ![1, 2]⟩
abbrev S2 : Shape := ⟨1, ![2]⟩
abbrev S12 : Shape := ⟨1, ![12]⟩
abbrev S1x1x12 : Shape := ⟨3, ![1, 1, 12]⟩
abbrev S24x4096 : Shape := ⟨2, ![24, 4096]⟩
abbrev S24x4096x1 : Shape := ⟨3, ![24, 4096, 1]⟩
abbrev S2x4096x12x64 : Shape := ⟨4, ![2, 4096, 12, 64]⟩
abbrev S1x1x768 : Shape := ⟨3, ![1, 1, 768]⟩

abbrev nBuf : Space → Nat
  | .hbm => 273
  | .vmem => 0
  | .smem => 0
  | _ => 0

abbrev hbmTy0_0 (i : Nat) : BufTy := match i % 128 with
  | 0 => ⟨S2x4096x768, .f32⟩
  | 1 => ⟨S2304x768, .f32⟩
  | 2 => ⟨S2304, .f32⟩
  | 3 => ⟨S768x768, .f32⟩
  | 4 => ⟨S768, .f32⟩
  | 5 => ⟨S3, .f32⟩
  | 6 => ⟨S768x2304, .f32⟩
  | 7 => ⟨S2x4096x2304, .f32⟩
  | 8 => ⟨S1x1x2304, .f32⟩
  | 9 => ⟨S2x4096x2304, .f32⟩
  | 10 => ⟨S2x4096x2304, .f32⟩
  | 11 => ⟨S2x4096x3x12x64, .f32⟩
  | 12 => ⟨S3x2x12x4096x64, .f32⟩
  | 13 => ⟨S1x2x12x4096x64, .f32⟩
  | 14 => ⟨S2x12x4096x64, .f32⟩
  | 15 => ⟨S1x2x12x4096x64, .f32⟩
  | 16 => ⟨S2x12x4096x64, .f32⟩
  | 17 => ⟨S1x2x12x4096x64, .f32⟩
  | 18 => ⟨S2x12x4096x64, .f32⟩
  | 19 => ⟨S4096, .i32⟩
  | 20 => ⟨S_, .i32⟩
  | 21 => ⟨S4096, .i32⟩
  | 22 => ⟨S4096, .i32⟩
  | 23 => ⟨S_, .i32⟩
  | 24 => ⟨S_, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i32⟩
  | 31 => ⟨S_, .i32⟩
  | 32 => ⟨S4096, .i32⟩
  | 33 => ⟨S4096, .i32⟩
  | 34 => ⟨S_, .i32⟩
  | 35 => ⟨S_, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S_, .i32⟩
  | 47 => ⟨S_, .i32⟩
  | 48 => ⟨S4096, .i32⟩
  | 49 => ⟨S4096, .i32⟩
  | 50 => ⟨S_, .i32⟩
  | 51 => ⟨S4096, .i32⟩
  | 52 => ⟨S4096, .i32⟩
  | 53 => ⟨S_, .i32⟩
  | 54 => ⟨S4096, .i32⟩
  | 55 => ⟨S4096, .i32⟩
  | 56 => ⟨S_, .i32⟩
  | 57 => ⟨S_, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i32⟩
  | 64 => ⟨S_, .i32⟩
  | 65 => ⟨S4096, .i32⟩
  | 66 => ⟨S4096, .i32⟩
  | 67 => ⟨S_, .i32⟩
  | 68 => ⟨S_, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S_, .i32⟩
  | 91 => ⟨S_, .i32⟩
  | 92 => ⟨S4096, .i32⟩
  | 93 => ⟨S4096, .i32⟩
  | 94 => ⟨S_, .i32⟩
  | 95 => ⟨S4096, .i32⟩
  | 96 => ⟨S4096, .i32⟩
  | 97 => ⟨S_, .i32⟩
  | 98 => ⟨S4096, .i32⟩
  | 99 => ⟨S4096, .i32⟩
  | 100 => ⟨S_, .i32⟩
  | 101 => ⟨S_, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S_, .i32⟩
  | 113 => ⟨S_, .i32⟩
  | 114 => ⟨S4096, .i32⟩
  | 115 => ⟨S4096, .i32⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S_, .i32⟩
  | 124 => ⟨S_, .i32⟩
  | 125 => ⟨S4096, .i32⟩
  | 126 => ⟨S4096, .i32⟩
  | 127 => ⟨S_, .i32⟩
  | _ => ⟨S2x4096x768, .f32⟩

abbrev hbmTy0_1 (i : Nat) : BufTy := match i % 128 with
  | 0 => ⟨S4096, .i32⟩
  | 1 => ⟨S4096, .i32⟩
  | 2 => ⟨S_, .i32⟩
  | 3 => ⟨S4096, .i32⟩
  | 4 => ⟨S_, .i32⟩
  | 5 => ⟨S4096, .i32⟩
  | 6 => ⟨S4096x1, .i32⟩
  | 7 => ⟨S4096x1, .i32⟩
  | 8 => ⟨S4096x1, .i32⟩
  | 9 => ⟨S4096x1, .i32⟩
  | 10 => ⟨S4096x1, .i32⟩
  | 11 => ⟨S4096x1, .i32⟩
  | 12 => ⟨S4096x1, .i32⟩
  | 13 => ⟨S4096x1, .i32⟩
  | 14 => ⟨S4096x1, .i32⟩
  | 15 => ⟨S4096x1, .i32⟩
  | 16 => ⟨S4096x1, .i32⟩
  | 17 => ⟨S4096x1, .i32⟩
  | 18 => ⟨S4096x12, .i32⟩
  | 19 => ⟨S24x4096x64, .f32⟩
  | 20 => ⟨S24x4096x64, .f32⟩
  | 21 => ⟨S24x4096x64, .f32⟩
  | 22 => ⟨S_, .i32⟩
  | 23 => ⟨S4096x12, .i32⟩
  | 24 => ⟨S4096x12, .i1⟩
  | 25 => ⟨S_, .i32⟩
  | 26 => ⟨S4096x12, .i32⟩
  | 27 => ⟨S4096x12, .i32⟩
  | 28 => ⟨S4096x12, .i32⟩
  | 29 => ⟨S4096x12x1, .i32⟩
  | 30 => ⟨S1, .i32⟩
  | 31 => ⟨S_, .i32⟩
  | 32 => ⟨S4096x12x1, .i32⟩
  | 33 => ⟨S4096x12x1, .i1⟩
  | 34 => ⟨S1x1x1, .i32⟩
  | 35 => ⟨S4096x12x1, .i32⟩
  | 36 => ⟨S4096x12x1, .i1⟩
  | 37 => ⟨S4096x12x1, .i1⟩
  | 38 => ⟨S_, .i1⟩
  | 39 => ⟨S4096x12, .i1⟩
  | 40 => ⟨S24x4096x12x64, .f32⟩
  | 41 => ⟨S24x4096x12x64, .i1⟩
  | 42 => ⟨S_, .f32⟩
  | 43 => ⟨S24x4096x12x64, .f32⟩
  | 44 => ⟨S24x4096x12x64, .f32⟩
  | 45 => ⟨S_, .i32⟩
  | 46 => ⟨S4096x12, .i32⟩
  | 47 => ⟨S4096x12, .i1⟩
  | 48 => ⟨S_, .i32⟩
  | 49 => ⟨S4096x12, .i32⟩
  | 50 => ⟨S4096x12, .i32⟩
  | 51 => ⟨S4096x12, .i32⟩
  | 52 => ⟨S4096x12x1, .i32⟩
  | 53 => ⟨S1, .i32⟩
  | 54 => ⟨S_, .i32⟩
  | 55 => ⟨S4096x12x1, .i32⟩
  | 56 => ⟨S4096x12x1, .i1⟩
  | 57 => ⟨S1x1x1, .i32⟩
  | 58 => ⟨S4096x12x1, .i32⟩
  | 59 => ⟨S4096x12x1, .i1⟩
  | 60 => ⟨S4096x12x1, .i1⟩
  | 61 => ⟨S_, .i1⟩
  | 62 => ⟨S4096x12, .i1⟩
  | 63 => ⟨S24x4096x12x64, .f32⟩
  | 64 => ⟨S24x4096x12x64, .i1⟩
  | 65 => ⟨S_, .f32⟩
  | 66 => ⟨S24x4096x12x64, .f32⟩
  | 67 => ⟨S24x4096x12x64, .f32⟩
  | 68 => ⟨S24x4096x12, .f32⟩
  | 69 => ⟨S_, .f32⟩
  | 70 => ⟨S24x4096x12, .f32⟩
  | 71 => ⟨S24x4096x12, .f32⟩
  | 72 => ⟨S_, .f32⟩
  | 73 => ⟨S_, .f32⟩
  | 74 => ⟨S_, .f32⟩
  | 75 => ⟨S_, .f32⟩
  | 76 => ⟨S1, .f32⟩
  | 77 => ⟨S3, .f32⟩
  | 78 => ⟨S3, .f32⟩
  | 79 => ⟨S3, .f32⟩
  | 80 => ⟨S_, .f32⟩
  | 81 => ⟨S_, .f32⟩
  | 82 => ⟨S1, .f32⟩
  | 83 => ⟨S3, .f32⟩
  | 84 => ⟨S3, .f32⟩
  | 85 => ⟨S1, .f32⟩
  | 86 => ⟨S_, .f32⟩
  | 87 => ⟨S1, .f32⟩
  | 88 => ⟨S1x6, .f32⟩
  | 89 => ⟨S6, .f32⟩
  | 90 => ⟨S1, .f32⟩
  | 91 => ⟨S_, .f32⟩
  | 92 => ⟨S1, .f32⟩
  | 93 => ⟨S1x4, .f32⟩
  | 94 => ⟨S4, .f32⟩
  | 95 => ⟨S1, .f32⟩
  | 96 => ⟨S_, .f32⟩
  | 97 => ⟨S1, .f32⟩
  | 98 => ⟨S1x2, .f32⟩
  | 99 => ⟨S2, .f32⟩
  | 100 => ⟨S12, .f32⟩
  | 101 => ⟨S12, .f32⟩
  | 102 => ⟨S1x1x12, .f32⟩
  | 103 => ⟨S24x4096x12, .f32⟩
  | 104 => ⟨S24x4096x12, .f32⟩
  | 105 => ⟨S_, .f32⟩
  | 106 => ⟨S24x4096, .f32⟩
  | 107 => ⟨S_, .f32⟩
  | 108 => ⟨S24x4096, .f32⟩
  | 109 => ⟨S24x4096, .f32⟩
  | 110 => ⟨S24x4096x1, .f32⟩
  | 111 => ⟨S24x4096x12, .f32⟩
  | 112 => ⟨S24x4096x12, .f32⟩
  | 113 => ⟨S24x4096x12, .f32⟩
  | 114 => ⟨S_, .f32⟩
  | 115 => ⟨S24x4096, .f32⟩
  | 116 => ⟨S24x4096x1, .f32⟩
  | 117 => ⟨S24x4096x12, .f32⟩
  | 118 => ⟨S24x4096x12, .f32⟩
  | 119 => ⟨S_, .f32⟩
  | 120 => ⟨S24x4096x12, .i1⟩
  | 121 => ⟨S_, .f32⟩
  | 122 => ⟨S24x4096x12, .f32⟩
  | 123 => ⟨S24x4096x12, .f32⟩
  | 124 => ⟨S_, .f32⟩
  | 125 => ⟨S24x4096x12, .f32⟩
  | 126 => ⟨S24x4096x12, .i1⟩
  | 127 => ⟨S_, .f32⟩
  | _ => ⟨S2x4096x768, .f32⟩

abbrev hbmTy0_2 (i : Nat) : BufTy := match i % 128 with
  | 0 => ⟨S24x4096x12, .f32⟩
  | 1 => ⟨S24x4096x12, .f32⟩
  | 2 => ⟨S_, .f32⟩
  | 3 => ⟨S24x4096x12, .f32⟩
  | 4 => ⟨S24x4096x12, .i1⟩
  | 5 => ⟨S_, .f32⟩
  | 6 => ⟨S24x4096x12, .f32⟩
  | 7 => ⟨S24x4096x12, .f32⟩
  | 8 => ⟨S24x4096x64, .f32⟩
  | 9 => ⟨S2x12x4096x64, .f32⟩
  | 10 => ⟨S2x4096x12x64, .f32⟩
  | 11 => ⟨S2x4096x768, .f32⟩
  | 12 => ⟨S768x768, .f32⟩
  | 13 => ⟨S2x4096x768, .f32⟩
  | 14 => ⟨S1x1x768, .f32⟩
  | 15 => ⟨S2x4096x768, .f32⟩
  | 16 => ⟨S2x4096x768, .f32⟩
  | _ => ⟨S2x4096x768, .f32⟩

abbrev hbmTy (i : Nat) : BufTy := match i / 128 with
  | 0 => hbmTy0_0 i
  | 1 => hbmTy0_1 i
  | 2 => hbmTy0_2 i
  | _ => ⟨S2x4096x768, .f32⟩

abbrev bufTy : (tb : Table) → Fin (tcTables nBuf tb) → BufTy
  | .hbm, ⟨i, _⟩ => hbmTy i
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_v14 : Ref sig .tc := ⟨.hbm, 21, rfl⟩
abbrev main_v15 : Ref sig .tc := ⟨.hbm, 22, rfl⟩
abbrev main_c_0 : Ref sig .tc := ⟨.hbm, 23, rfl⟩
abbrev main_c_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_c_4 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_v21 : Ref sig .tc := ⟨.hbm, 44, rfl⟩
abbrev main_c_6 : Ref sig .tc := ⟨.hbm, 45, rfl⟩
abbrev main_c_7 : Ref sig .tc := ⟨.hbm, 46, rfl⟩
abbrev main_call2_v0 : Ref sig .tc := ⟨.hbm, 47, rfl⟩
abbrev main_call2_v1 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_v22 : Ref sig .tc := ⟨.hbm, 52, rfl⟩
abbrev main_c_8 : Ref sig .tc := ⟨.hbm, 53, rfl⟩
abbrev main_v23 : Ref sig .tc := ⟨.hbm, 54, rfl⟩
abbrev main_v24 : Ref sig .tc := ⟨.hbm, 55, rfl⟩
abbrev main_c_9 : Ref sig .tc := ⟨.hbm, 56, rfl⟩
abbrev main_c_10 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v25 : Ref sig .tc := ⟨.hbm, 63, rfl⟩
abbrev main_c_11 : Ref sig .tc := ⟨.hbm, 64, rfl⟩
abbrev main_v26 : Ref sig .tc := ⟨.hbm, 65, rfl⟩
abbrev main_v27 : Ref sig .tc := ⟨.hbm, 66, rfl⟩
abbrev main_c_12 : Ref sig .tc := ⟨.hbm, 67, rfl⟩
abbrev main_c_13 : Ref sig .tc := ⟨.hbm, 68, rfl⟩
abbrev main_call4_v0 : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_v28 : Ref sig .tc := ⟨.hbm, 74, rfl⟩
abbrev main_c_14 : Ref sig .tc := ⟨.hbm, 75, rfl⟩
abbrev main_v29 : Ref sig .tc := ⟨.hbm, 76, rfl⟩
abbrev main_v30 : Ref sig .tc := ⟨.hbm, 77, rfl⟩
abbrev main_c_15 : Ref sig .tc := ⟨.hbm, 78, rfl⟩
abbrev main_c_16 : Ref sig .tc := ⟨.hbm, 79, rfl⟩
abbrev main_call5_v0 : Ref sig .tc := ⟨.hbm, 80, rfl⟩
abbrev main_call5_v1 : Ref sig .tc := ⟨.hbm, 81, rfl⟩
abbrev main_call5_v2 : Ref sig .tc := ⟨.hbm, 82, rfl⟩
abbrev main_call5_v3 : Ref sig .tc := ⟨.hbm, 83, rfl⟩
abbrev main_call5_v4 : Ref sig .tc := ⟨.hbm, 84, rfl⟩
abbrev main_v31 : Ref sig .tc := ⟨.hbm, 85, rfl⟩
abbrev main_c_17 : Ref sig .tc := ⟨.hbm, 86, rfl⟩
abbrev main_v32 : Ref sig .tc := ⟨.hbm, 87, rfl⟩
abbrev main_v33 : Ref sig .tc := ⟨.hbm, 88, rfl⟩
abbrev main_c_18 : Ref sig .tc := ⟨.hbm, 89, rfl⟩
abbrev main_c_19 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_v34 : Ref sig .tc := ⟨.hbm, 96, rfl⟩
abbrev main_c_20 : Ref sig .tc := ⟨.hbm, 97, rfl⟩
abbrev main_v35 : Ref sig .tc := ⟨.hbm, 98, rfl⟩
abbrev main_v36 : Ref sig .tc := ⟨.hbm, 99, rfl⟩
abbrev main_c_21 : Ref sig .tc := ⟨.hbm, 100, rfl⟩
abbrev main_c_22 : Ref sig .tc := ⟨.hbm, 101, rfl⟩
abbrev main_call7_v0 : Ref sig .tc := ⟨.hbm, 102, rfl⟩
abbrev main_call7_v1 : Ref sig .tc := ⟨.hbm, 103, rfl⟩
abbrev main_call7_v2 : Ref sig .tc := ⟨.hbm, 104, rfl⟩
abbrev main_call7_v3 : Ref sig .tc := ⟨.hbm, 105, rfl⟩
abbrev main_call7_v4 : Ref sig .tc := ⟨.hbm, 106, rfl⟩
abbrev main_v37 : Ref sig .tc := ⟨.hbm, 107, rfl⟩
abbrev main_c_23 : Ref sig .tc := ⟨.hbm, 108, rfl⟩
abbrev main_v38 : Ref sig .tc := ⟨.hbm, 109, rfl⟩
abbrev main_v39 : Ref sig .tc := ⟨.hbm, 110, rfl⟩
abbrev main_c_24 : Ref sig .tc := ⟨.hbm, 111, rfl⟩
abbrev main_c_25 : Ref sig .tc := ⟨.hbm, 112, rfl⟩
abbrev main_call8_v0 : Ref sig .tc := ⟨.hbm, 113, rfl⟩
abbrev main_call8_v1 : Ref sig .tc := ⟨.hbm, 114, rfl⟩
abbrev main_call8_v2 : Ref sig .tc := ⟨.hbm, 115, rfl⟩
abbrev main_call8_v3 : Ref sig .tc := ⟨.hbm, 116, rfl⟩
abbrev main_call8_v4 : Ref sig .tc := ⟨.hbm, 117, rfl⟩
abbrev main_v40 : Ref sig .tc := ⟨.hbm, 118, rfl⟩
abbrev main_c_26 : Ref sig .tc := ⟨.hbm, 119, rfl⟩
abbrev main_v41 : Ref sig .tc := ⟨.hbm, 120, rfl⟩
abbrev main_v42 : Ref sig .tc := ⟨.hbm, 121, rfl⟩
abbrev main_c_27 : Ref sig .tc := ⟨.hbm, 122, rfl⟩
abbrev main_c_28 : Ref sig .tc := ⟨.hbm, 123, rfl⟩
abbrev main_call9_v0 : Ref sig .tc := ⟨.hbm, 124, rfl⟩
abbrev main_call9_v1 : Ref sig .tc := ⟨.hbm, 125, rfl⟩
abbrev main_call9_v2 : Ref sig .tc := ⟨.hbm, 126, rfl⟩
abbrev main_call9_v3 : Ref sig .tc := ⟨.hbm, 127, rfl⟩
abbrev main_call9_v4 : Ref sig .tc := ⟨.hbm, 128, rfl⟩
abbrev main_v43 : Ref sig .tc := ⟨.hbm, 129, rfl⟩
abbrev main_c_29 : Ref sig .tc := ⟨.hbm, 130, rfl⟩
abbrev main_v44 : Ref sig .tc := ⟨.hbm, 131, rfl⟩
abbrev main_c_30 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_v49 : Ref sig .tc := ⟨.hbm, 137, rfl⟩
abbrev main_v50 : Ref sig .tc := ⟨.hbm, 138, rfl⟩
abbrev main_v51 : Ref sig .tc := ⟨.hbm, 139, rfl⟩
abbrev main_v52 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_call10_c : Ref sig .tc := ⟨.hbm, 150, rfl⟩
abbrev main_call10_v0 : Ref sig .tc := ⟨.hbm, 151, rfl⟩
abbrev main_call10_v1 : Ref sig .tc := ⟨.hbm, 152, rfl⟩
abbrev main_call10_c_0 : Ref sig .tc := ⟨.hbm, 153, rfl⟩
abbrev main_call10_v2 : Ref sig .tc := ⟨.hbm, 154, rfl⟩
abbrev main_call10_v3 : Ref sig .tc := ⟨.hbm, 155, rfl⟩
abbrev main_call10_v4 : Ref sig .tc := ⟨.hbm, 156, rfl⟩
abbrev main_call10_v5 : Ref sig .tc := ⟨.hbm, 157, rfl⟩
abbrev main_call10_c_1 : Ref sig .tc := ⟨.hbm, 158, rfl⟩
abbrev main_call10_c_2 : Ref sig .tc := ⟨.hbm, 159, rfl⟩
abbrev main_call10_v6 : Ref sig .tc := ⟨.hbm, 160, rfl⟩
abbrev main_call10_v7 : Ref sig .tc := ⟨.hbm, 161, rfl⟩
abbrev main_call10_v8 : Ref sig .tc := ⟨.hbm, 162, rfl⟩
abbrev main_call10_v9 : Ref sig .tc := ⟨.hbm, 163, rfl⟩
abbrev main_call10_v10 : Ref sig .tc := ⟨.hbm, 164, rfl⟩
abbrev main_call10_v11 : Ref sig .tc := ⟨.hbm, 165, rfl⟩
abbrev main_call10_c_3 : Ref sig .tc := ⟨.hbm, 166, rfl⟩
abbrev main_call10_v12 : Ref sig .tc := ⟨.hbm, 167, rfl⟩
abbrev main_call10_v13 : Ref sig .tc := ⟨.hbm, 168, rfl⟩
abbrev main_call10_v14 : Ref sig .tc := ⟨.hbm, 169, rfl⟩
abbrev main_call10_cst : Ref sig .tc := ⟨.hbm, 170, rfl⟩
abbrev main_call10_v15 : Ref sig .tc := ⟨.hbm, 171, rfl⟩
abbrev main_v62 : Ref sig .tc := ⟨.hbm, 172, rfl⟩
abbrev main_call11_c : Ref sig .tc := ⟨.hbm, 173, rfl⟩
abbrev main_call11_v0 : Ref sig .tc := ⟨.hbm, 174, rfl⟩
abbrev main_call11_v1 : Ref sig .tc := ⟨.hbm, 175, rfl⟩
abbrev main_call11_c_0 : Ref sig .tc := ⟨.hbm, 176, rfl⟩
abbrev main_call11_v2 : Ref sig .tc := ⟨.hbm, 177, rfl⟩
abbrev main_call11_v3 : Ref sig .tc := ⟨.hbm, 178, rfl⟩
abbrev main_call11_v4 : Ref sig .tc := ⟨.hbm, 179, rfl⟩
abbrev main_call11_v5 : Ref sig .tc := ⟨.hbm, 180, rfl⟩
abbrev main_call11_c_1 : Ref sig .tc := ⟨.hbm, 181, rfl⟩
abbrev main_call11_c_2 : Ref sig .tc := ⟨.hbm, 182, rfl⟩
abbrev main_call11_v6 : Ref sig .tc := ⟨.hbm, 183, rfl⟩
abbrev main_call11_v7 : Ref sig .tc := ⟨.hbm, 184, rfl⟩
abbrev main_call11_v8 : Ref sig .tc := ⟨.hbm, 185, rfl⟩
abbrev main_call11_v9 : Ref sig .tc := ⟨.hbm, 186, rfl⟩
abbrev main_call11_v10 : Ref sig .tc := ⟨.hbm, 187, rfl⟩
abbrev main_call11_v11 : Ref sig .tc := ⟨.hbm, 188, rfl⟩
abbrev main_call11_c_3 : Ref sig .tc := ⟨.hbm, 189, rfl⟩
abbrev main_call11_v12 : Ref sig .tc := ⟨.hbm, 190, rfl⟩
abbrev main_call11_v13 : Ref sig .tc := ⟨.hbm, 191, rfl⟩
abbrev main_call11_v14 : Ref sig .tc := ⟨.hbm, 192, rfl⟩
abbrev main_call11_cst : Ref sig .tc := ⟨.hbm, 193, rfl⟩
abbrev main_call11_v15 : Ref sig .tc := ⟨.hbm, 194, rfl⟩
abbrev main_v63 : Ref sig .tc := ⟨.hbm, 195, rfl⟩
abbrev main_v64 : Ref sig .tc := ⟨.hbm, 196, rfl⟩
abbrev main_cst : Ref sig .tc := ⟨.hbm, 197, rfl⟩
abbrev main_v65 : Ref sig .tc := ⟨.hbm, 198, rfl⟩
abbrev main_v66 : Ref sig .tc := ⟨.hbm, 199, rfl⟩
abbrev main_cst_31 : Ref sig .tc := ⟨.hbm, 200, rfl⟩
abbrev main_v67 : Ref sig .tc := ⟨.hbm, 201, rfl⟩
abbrev main_cst_32 : Ref sig .tc := ⟨.hbm, 202, rfl⟩
abbrev main_v68 : Ref sig .tc := ⟨.hbm, 203, rfl⟩
abbrev main_v69 : Ref sig .tc := ⟨.hbm, 204, rfl⟩
abbrev main_v70 : Ref sig .tc := ⟨.hbm, 205, rfl⟩
abbrev main_v71 : Ref sig .tc := ⟨.hbm, 206, rfl⟩
abbrev main_v72 : Ref sig .tc := ⟨.hbm, 207, rfl⟩
abbrev main_cst_33 : Ref sig .tc := ⟨.hbm, 208, rfl⟩
abbrev main_v73 : Ref sig .tc := ⟨.hbm, 209, rfl⟩
abbrev main_v74 : Ref sig .tc := ⟨.hbm, 210, rfl⟩
abbrev main_v75 : Ref sig .tc := ⟨.hbm, 211, rfl⟩
abbrev main_v76 : Ref sig .tc := ⟨.hbm, 212, rfl⟩
abbrev main_v77 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_v81 : Ref sig .tc := ⟨.hbm, 217, rfl⟩
abbrev main_v82 : Ref sig .tc := ⟨.hbm, 218, rfl⟩
abbrev main_v83 : Ref sig .tc := ⟨.hbm, 219, rfl⟩
abbrev main_v84 : Ref sig .tc := ⟨.hbm, 220, rfl⟩
abbrev main_v85 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_v91 : Ref sig .tc := ⟨.hbm, 227, rfl⟩
abbrev main_v92 : Ref sig .tc := ⟨.hbm, 228, rfl⟩
abbrev main_v93 : Ref sig .tc := ⟨.hbm, 229, rfl⟩
abbrev main_v94 : Ref sig .tc := ⟨.hbm, 230, rfl⟩
abbrev main_v95 : Ref sig .tc := ⟨.hbm, 231, rfl⟩
abbrev main_v96 : Ref sig .tc := ⟨.hbm, 232, rfl⟩
abbrev main_cst_34 : Ref sig .tc := ⟨.hbm, 233, rfl⟩
abbrev main_v97 : Ref sig .tc := ⟨.hbm, 234, rfl⟩
abbrev main_cst_35 : Ref sig .tc := ⟨.hbm, 235, rfl⟩
abbrev main_v98 : Ref sig .tc := ⟨.hbm, 236, rfl⟩
abbrev main_v99 : Ref sig .tc := ⟨.hbm, 237, rfl⟩
abbrev main_v100 : Ref sig .tc := ⟨.hbm, 238, rfl⟩
abbrev main_v101 : Ref sig .tc := ⟨.hbm, 239, rfl⟩
abbrev main_v102 : Ref sig .tc := ⟨.hbm, 240, rfl⟩
abbrev main_v103 : Ref sig .tc := ⟨.hbm, 241, rfl⟩
abbrev main_cst_36 : Ref sig .tc := ⟨.hbm, 242, rfl⟩
abbrev main_v104 : Ref sig .tc := ⟨.hbm, 243, rfl⟩
abbrev main_v105 : Ref sig .tc := ⟨.hbm, 244, rfl⟩
abbrev main_v106 : Ref sig .tc := ⟨.hbm, 245, rfl⟩
abbrev main_v107 : Ref sig .tc := ⟨.hbm, 246, rfl⟩
abbrev main_cst_37 : Ref sig .tc := ⟨.hbm, 247, rfl⟩
abbrev main_call12_v0 : Ref sig .tc := ⟨.hbm, 248, rfl⟩
abbrev main_call12_v1 : Ref sig .tc := ⟨.hbm, 249, rfl⟩
abbrev main_call12_call0_v0 : Ref sig .tc := ⟨.hbm, 250, rfl⟩
abbrev main_call12_v2 : Ref sig .tc := ⟨.hbm, 251, rfl⟩
abbrev main_call12_cst : Ref sig .tc := ⟨.hbm, 252, rfl⟩
abbrev main_call12_v3 : Ref sig .tc := ⟨.hbm, 253, rfl⟩
abbrev main_call12_v4 : Ref sig .tc := ⟨.hbm, 254, rfl⟩
abbrev main_call12_cst_0 : Ref sig .tc := ⟨.hbm, 255, rfl⟩
abbrev main_call12_call1_v0 : Ref sig .tc := ⟨.hbm, 256, rfl⟩
abbrev main_call12_v5 : Ref sig .tc := ⟨.hbm, 257, rfl⟩
abbrev main_call12_cst_1 : Ref sig .tc := ⟨.hbm, 258, rfl⟩
abbrev main_call12_v6 : Ref sig .tc := ⟨.hbm, 259, rfl⟩
abbrev main_call12_v7 : Ref sig .tc := ⟨.hbm, 260, rfl⟩
abbrev main_call12_cst_2 : Ref sig .tc := ⟨.hbm, 261, rfl⟩
abbrev main_call12_call2_v0 : Ref sig .tc := ⟨.hbm, 262, rfl⟩
abbrev main_v108 : Ref sig .tc := ⟨.hbm, 263, rfl⟩
abbrev main_v109 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_v113 : Ref sig .tc := ⟨.hbm, 268, rfl⟩
abbrev main_v114 : Ref sig .tc := ⟨.hbm, 269, rfl⟩
abbrev main_v115 : Ref sig .tc := ⟨.hbm, 270, rfl⟩
abbrev main_v116 : Ref sig .tc := ⟨.hbm, 271, rfl⟩
abbrev main_v117 : Ref sig .tc := ⟨.hbm, 272, rfl⟩

abbrev nD : Nat := 1
abbrev τ : Topo := Topo.v7x

variable {F : FTy → Type} [FloatOps F]
-- ==== Proof.KernelIdeal.Slots.lean ====
/- The window ring of the anchor-attention kernel: the memrefs and semaphore cells its copies name, the pieces
   of the window slots and of the sources they move, and what one slot holds once its four copies have landed.

   A window slot (one of two) is filled by four copies on four cells of its own: 16 rows below a tile, the
   tile's 1024 rows, 16 rows above it, and 16 rows of edge rows. Tile `n` of batch `b` goes to slot `n % 2`. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueLayout
public import Idealize.ShloMosaic.Lib.Pipeline.ValueKit.Geometry

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

/-! ## Memrefs and cells -/

/-- The window scratch and the four arrays left in HBM, whole. -/
abbrev scr : Memref sig .tc .vmem S2x1072x768 .f32 := Memref.whole cc0_scratch0
abbrev hx : Memref sig .tc .hbm S2x4096x768 .f32 := Memref.whole main_arg0
abbrev hlo : Memref sig .tc .hbm S2x16x768 .f32 := Memref.whole main_v1
abbrev hhi : Memref sig .tc .hbm S2x16x768 .f32 := Memref.whole main_v3
abbrev hed : Memref sig .tc .hbm S2x16x768 .f32 := Memref.whole main_v7

/-- A rectangle of `size 1` on the leading axis, whole on the last, with `n` rows from row `r`, lies inside. -/
theorem inbS (s : Fin 2) (r n : ℕ) (h : r + n ≤ 1072) : ∀ a, (![s.val, r, 0] : Fin 3 → Nat) a + (![1, n, 768] : Fin 3 → Nat) a ≤ S2x1072x768.size a := by
  have := s.isLt; intro a; fin_cases a <;> simp <;> omega
theorem inbX (b : Fin 2) (r n : ℕ) (h : r + n ≤ 4096) : ∀ a, (![b.val, r, 0] : Fin 3 → Nat) a + (![1, n, 768] : Fin 3 → Nat) a ≤ S2x4096x768.size a := by
  have := b.isLt; intro a; fin_cases a <;> simp <;> omega
theorem inbP (b : Fin 2) : ∀ a, (![b.val, 0, 0] : Fin 3 → Nat) a + (![1, 16, 768] : Fin 3 → Nat) a ≤ S2x16x768.size a := by
  have := b.isLt; intro a; fin_cases a <;> simp <;> omega
theorem inbC (s : Fin 2) (k : Fin 4) : ∀ a, (![s.val, k.val] : Fin 2 → Nat) a + (![1, 1] : Fin 2 → Nat) a ≤ S2x4.size a := by
  have := s.isLt; have := k.isLt; intro a; fin_cases a <;> simp <;> omega

/-- The four parts of slot `s`, and the slot whole, as the body's copies and loads spell them. -/
def dstM (s : Fin 2) : Memref sig .tc .vmem S1024x768 .f32 :=
  (scr.slice (Rect.unit (s := S2x1072x768) ![s.val, 16, 0] S1x1024x768.size (inbS s 16 1024 (by omega))) (fun _ => rfl)).squeeze S1024x768 squeezes_S1x1024x768_S1024x768
def dstE (s : Fin 2) : Memref sig .tc .vmem S16x768 .f32 :=
  (scr.slice (Rect.unit (s := S2x1072x768) ![s.val, 1056, 0] S1x16x768.size (inbS s 1056 16 (by omega))) (fun _ => rfl)).squeeze S16x768 squeezes_S1x16x768_S16x768
def dstL (s : Fin 2) : Memref sig .tc .vmem S16x768 .f32 :=
  (scr.slice (Rect.unit (s := S2x1072x768) ![s.val, 0, 0] S1x16x768.size (inbS s 0 16 (by omega))) (fun _ => rfl)).squeeze S16x768 squeezes_S1x16x768_S16x768
def dstH (s : Fin 2) : Memref sig .tc .vmem S16x768 .f32 :=
  (scr.slice (Rect.unit (s := S2x1072x768) ![s.val, 1040, 0] S1x16x768.size (inbS s 1040 16 (by omega))) (fun _ => rfl)).squeeze S16x768 squeezes_S1x16x768_S16x768
def dstW (s : Fin 2) : Memref sig .tc .vmem S1072x768 .f32 :=
  (scr.slice (Rect.unit (s := S2x1072x768) ![s.val, 0, 0] S1x1072x768.size (inbS s 0 1072 (by omega))) (fun _ => rfl)).squeeze S1072x768 squeezes_S1x1072x768_S1072x768

/-- The sources: tile `n` of batch `b`, the 16 rows below it (above the first tile) and above it (below the
    last), the 16 rows padded below the first tile and above the last, the edge rows. -/
def srcM (b : Fin 2) (n : Fin 4) : Memref sig .tc .hbm S1024x768 .f32 :=
  (hx.slice (Rect.unit (s := S2x4096x768) ![b.val, 1024 * n.val, 0] S1x1024x768.size (inbX b (1024 * n.val) 1024 (by omega))) (fun _ => rfl)).squeeze S1024x768 squeezes_S1x1024x768_S1024x768
def srcL (b : Fin 2) (n : Fin 4) : Memref sig .tc .hbm S16x768 .f32 :=
  (hx.slice (Rect.unit (s := S2x4096x768) ![b.val, 1024 * n.val - 16, 0] S1x16x768.size (inbX b (1024 * n.val - 16) 16 (by omega))) (fun _ => rfl)).squeeze S16x768 squeezes_S1x16x768_S16x768
def srcH (b : Fin 2) (n : Fin 4) : Memref sig .tc .hbm S16x768 .f32 :=
  (hx.slice (Rect.unit (s := S2x4096x768) ![b.val, 1024 * (n.val % 3) + 1024, 0] S1x16x768.size (inbX b (1024 * (n.val % 3) + 1024) 16 (by omega))) (fun _ => rfl)).squeeze S16x768 squeezes_S1x16x768_S16x768
def srcPL (b : Fin 2) : Memref sig .tc .hbm S16x768 .f32 :=
  (hlo.slice (Rect.unit (s := S2x16x768) ![b.val, 0, 0] S1x16x768.size (inbP b)) (fun _ => rfl)).squeeze S16x768 squeezes_S1x16x768_S16x768
def srcPH (b : Fin 2) : Memref sig .tc .hbm S16x768 .f32 :=
  (hhi.slice (Rect.unit (s := S2x16x768) ![b.val, 0, 0] S1x16x768.size (inbP b)) (fun _ => rfl)).squeeze S16x768 squeezes_S1x16x768_S16x768
def srcE (b : Fin 2) : Memref sig .tc .hbm S16x768 .f32 :=
  (hed.slice (Rect.unit (s := S2x16x768) ![b.val, 0, 0] S1x16x768.size (inbP b)) (fun _ => rfl)).squeeze S16x768 squeezes_S1x16x768_S16x768

/-- Cell `k` of slot `s`: its number in the pool is `8 + 4 s + k`. -/
def cellA (s : Fin 2) (k : Fin 4) : DmaSems sig S_ :=
  (cc0_scratch1.slice (Rect.unit (s := S2x4) ![s.val, k.val] S1x1.size (inbC s k))).squeeze S_ squeezes_S1x1_S_
abbrev cellR (s : Fin 2) (k : Fin 4) : SemLoc sig := SemLoc.dma (cellA s k).sem
theorem cellR_eq : ∀ (s : Fin 2) (k : Fin 4), cellR s k = SemLoc.dma (⟨8 + 4 * s.val + k.val, by have := s.isLt; have := k.isLt; show _ < 16; omega⟩ : DmaSem sig) := by decide

/-! ## The pieces held -/

/-- A buffer's contents on core `c`, and a memref's elements held at `f` with share `q`. -/
abbrev HB (F : FTy → Type) (c : Dev nD) {sp : Space} {S : Shape} {e : EltTy} (M : Memref sig .tc sp S e) : Type := Buf (Elt F) (M.view.loc (c : Thread nD τ))

section Pieces
variable (c : Dev nD)

abbrev part {sp : Space} {S : Shape} {e : EltTy} (M : Memref sig .tc sp S e) (q : PosShare TreeShare) (f : HB F c M) : sProp 𝕄 :=
  M.view.loc (c : Thread nD τ) ↦[M.view.set]{q} f
abbrev full {sp : Space} {S : Shape} {e : EltTy} (M : Memref sig .tc sp S e) (f : HB F c M) : sProp 𝕄 :=
  M.view.loc (c : Thread nD τ) ↦{fullShare} f
abbrev cell0 (s : Fin 2) (k : Fin 4) : sProp 𝕄 := semVal ((c : Thread nD τ), cellR s k) 0

/-- Slot `s`'s read shares: a half of the edge rows' array; of `x`, whose half it divides among its three
    copies. -/
abbrev qE (s : Fin 2) : PosShare TreeShare := if s.val = 0 then fullShare.left else fullShare.right
abbrev qM (s : Fin 2) : PosShare TreeShare := (qE s).left
abbrev qL (s : Fin 2) : PosShare TreeShare := (qE s).right.left
abbrev qH (s : Fin 2) : PosShare TreeShare := (qE s).right.right

/-- The rest of the array `A` once its elements `I` are lent at share `q`: folded, since no run reads it. -/
def rest {S : Shape} (A : Memref sig .tc .hbm S .f32) (q : PosShare TreeShare) (f : HB F c A)
    (I : Finset (Idx (A.view.loc (c : Thread nD τ)))) : sProp 𝕄 := A.view.loc (c : Thread nD τ) ↦[Finset.univ \ I]{q} f
/-- The array `A` whole at share `q`: folded for the same reason. -/
def copyOf {S : Shape} (A : Memref sig .tc .hbm S .f32) (q : PosShare TreeShare) (f : HB F c A) : sProp 𝕄 :=
  A.view.loc (c : Thread nD τ) ↦[Finset.univ]{q} f
/-- The transfer of `src` (contents `w`, lent at share `q`) into `dst` (at `f` before it) in flight on cell `k` of slot `s`. -/
abbrev flightAt {S : Shape} (s : Fin 2) (k : Fin 4) (dst : Memref sig .tc .vmem S .f32) (src : Memref sig .tc .hbm S .f32)
    (q : PosShare TreeShare) (w : HB F c src) (f : HB F c dst) : sProp 𝕄 :=
  Transfers.Flight countersEmb (c : Thread nD τ) (cellR s k) default (dst.view.amount (cellR s k))
    iprop(part c dst fullShare (dst.view.writes (Elt F) f [⟨Rect.whole S, ReadAs.same.apply (src.view.read (Elt F) w)⟩]) ∗ part c src q w)

end Pieces

/-! ## Sources: lent and taken back -/

section Lend
variable (c : Dev nD)

theorem lendM (b : Fin 2) (n : Fin 4) (q) (X : HB F c hx) :
    copyOf c hx q X ⊣⊢ iprop(part c (srcM b n) q X ∗ rest c hx q X (srcM b n).view.set) := pointsTo_split_subset (Finset.subset_univ _)
theorem lendL (b : Fin 2) (n : Fin 4) (q) (X : HB F c hx) :
    copyOf c hx q X ⊣⊢ iprop(part c (srcL b n) q X ∗ rest c hx q X (srcL b n).view.set) := pointsTo_split_subset (Finset.subset_univ _)
theorem lendH (b : Fin 2) (n : Fin 4) (q) (X : HB F c hx) :
    copyOf c hx q X ⊣⊢ iprop(part c (srcH b n) q X ∗ rest c hx q X (srcH b n).view.set) := pointsTo_split_subset (Finset.subset_univ _)
theorem lendE (b : Fin 2) (q) (E : HB F c hed) :
    copyOf c hed q E ⊣⊢ iprop(part c (srcE b) q E ∗ rest c hed q E (srcE b).view.set) := pointsTo_split_subset (Finset.subset_univ _)
theorem lendPL (b : Fin 2) (q) (PL : HB F c hlo) :
    copyOf c hlo q PL ⊣⊢ iprop(part c (srcPL b) q PL ∗ rest c hlo q PL (srcPL b).view.set) := pointsTo_split_subset (Finset.subset_univ _)
theorem lendPH (b : Fin 2) (q) (PH : HB F c hhi) :
    copyOf c hhi q PH ⊣⊢ iprop(part c (srcPH b) q PH ∗ rest c hhi q PH (srcPH b).view.set) := pointsTo_split_subset (Finset.subset_univ _)

end Lend

/-! ## Where the pieces lie -/

section Geometry
omit [FloatOps F]

theorem emb_slot (s : Fin 2) (o n : ℕ) (h : o + n ≤ 1072) (hq : (⟨2, ![n, 768]⟩ : Shape).numel = (⟨3, ![1, n, 768]⟩ : Shape).numel)
    (r : Fin n) (k : Fin 768) :
    (Rect.unit (s := S2x1072x768) ![s.val, o, 0] (![1, n, 768] : Fin 3 → ℕ) (inbS s o n h)).emb (Shape.reshapeEquiv hq (ix2 r k))
      = (ix3 s ⟨o + r.val, by omega⟩ k : S2x1072x768.Idx) := by
  rw [reshapeEquiv_ix2_1ab]
  funext a; apply Fin.ext
  refine (ValueKit.rect_emb_unit_val _ _ _ _ _).trans ?_
  fin_cases a <;> simp [ix3]

theorem emb_rows (b : Fin 2) (N o n : ℕ) (h : o + n ≤ N) (inb : ∀ a, (![b.val, o, 0] : Fin 3 → Nat) a + (![1, n, 768] : Fin 3 → Nat) a ≤ (⟨3, ![2, N, 768]⟩ : Shape).size a)
    (hq : (⟨2, ![n, 768]⟩ : Shape).numel = (⟨3, ![1, n, 768]⟩ : Shape).numel) (r : Fin n) (k : Fin 768) :
    (Rect.unit (s := ⟨3, ![2, N, 768]⟩) ![b.val, o, 0] (![1, n, 768] : Fin 3 → ℕ) inb).emb (Shape.reshapeEquiv hq (ix2 r k))
      = (ix3 b ⟨o + r.val, by omega⟩ k : (⟨3, ![2, N, 768]⟩ : Shape).Idx) := by
  rw [reshapeEquiv_ix2_1ab]
  funext a; apply Fin.ext
  refine (ValueKit.rect_emb_unit_val _ _ _ _ _).trans ?_
  fin_cases a <;> simp [ix3]

theorem emb_dstM (s : Fin 2) (r : Fin 1024) (k : Fin 768) : (dstM s).view.emb (ix2 r k) = (ix3 s ⟨16 + r.val, by omega⟩ k : S2x1072x768.Idx) :=
  emb_slot s 16 1024 (by omega) _ r k
theorem emb_dstE (s : Fin 2) (r : Fin 16) (k : Fin 768) : (dstE s).view.emb (ix2 r k) = (ix3 s ⟨1056 + r.val, by omega⟩ k : S2x1072x768.Idx) :=
  emb_slot s 1056 16 (by omega) _ r k
theorem emb_dstL (s : Fin 2) (r : Fin 16) (k : Fin 768) : (dstL s).view.emb (ix2 r k) = (ix3 s ⟨0 + r.val, by omega⟩ k : S2x1072x768.Idx) :=
  emb_slot s 0 16 (by omega) _ r k
theorem emb_dstH (s : Fin 2) (r : Fin 16) (k : Fin 768) : (dstH s).view.emb (ix2 r k) = (ix3 s ⟨1040 + r.val, by omega⟩ k : S2x1072x768.Idx) :=
  emb_slot s 1040 16 (by omega) _ r k
theorem emb_dstW (s : Fin 2) (r : Fin 1072) (k : Fin 768) : (dstW s).view.emb (ix2 r k) = (ix3 s ⟨0 + r.val, by omega⟩ k : S2x1072x768.Idx) :=
  emb_slot s 0 1072 (by omega) _ r k
theorem emb_srcM (b : Fin 2) (n : Fin 4) (r : Fin 1024) (k : Fin 768) : (srcM b n).view.emb (ix2 r k) = (ix3 b ⟨1024 * n.val + r.val, by omega⟩ k : S2x4096x768.Idx) :=
  emb_rows b 4096 (1024 * n.val) 1024 (by omega) _ _ r k
theorem emb_srcL (b : Fin 2) (n : Fin 4) (r : Fin 16) (k : Fin 768) : (srcL b n).view.emb (ix2 r k) = (ix3 b ⟨1024 * n.val - 16 + r.val, by omega⟩ k : S2x4096x768.Idx) :=
  emb_rows b 4096 (1024 * n.val - 16) 16 (by omega) _ _ r k
theorem emb_srcH (b : Fin 2) (n : Fin 4) (r : Fin 16) (k : Fin 768) : (srcH b n).view.emb (ix2 r k) = (ix3 b ⟨1024 * (n.val % 3) + 1024 + r.val, by omega⟩ k : S2x4096x768.Idx) :=
  emb_rows b 4096 (1024 * (n.val % 3) + 1024) 16 (by omega) _ _ r k
theorem emb_srcPL (b : Fin 2) (r : Fin 16) (k : Fin 768) : (srcPL b).view.emb (ix2 r k) = (ix3 b ⟨0 + r.val, by omega⟩ k : S2x16x768.Idx) :=
  emb_rows b 16 0 16 (by omega) _ _ r k
theorem emb_srcPH (b : Fin 2) (r : Fin 16) (k : Fin 768) : (srcPH b).view.emb (ix2 r k) = (ix3 b ⟨0 + r.val, by omega⟩ k : S2x16x768.Idx) :=
  emb_rows b 16 0 16 (by omega) _ _ r k
theorem emb_srcE (b : Fin 2) (r : Fin 16) (k : Fin 768) : (srcE b).view.emb (ix2 r k) = (ix3 b ⟨0 + r.val, by omega⟩ k : S2x16x768.Idx) :=
  emb_rows b 16 0 16 (by omega) _ _ r k

/-- Rows `o … o + n` of slot `s`. -/
def rowsOf (s : Fin 2) (o n : ℕ) : Finset S2x1072x768.Idx := Finset.univ.filter fun i => (i 0).val = s.val ∧ o ≤ (i 1).val ∧ (i 1).val < o + n

theorem set_slot (s : Fin 2) (o n : ℕ) (h : o + n ≤ 1072) :
    (Rect.unit (s := S2x1072x768) ![s.val, o, 0] (![1, n, 768] : Fin 3 → ℕ) (inbS s o n h)).set = rowsOf s o n := by
  ext i
  rw [Rect.mem_set_unit]
  simp only [rowsOf, Finset.mem_filter, Finset.mem_univ, true_and]
  constructor
  · intro H
    have h0 := H 0; have h1 := H 1
    simp at h0 h1
    refine ⟨by omega, h1.1, h1.2⟩
  · rintro ⟨h0, h1, h2⟩ a
    have h3 : (i 2).val < 768 := (i 2).isLt
    fin_cases a
    · simp; omega
    · simp; omega
    · simp; exact h3

theorem set_dstM (s : Fin 2) : (dstM s).view.set = rowsOf s 16 1024 := by
  simp only [dstM, Memref.view_squeeze, View.set_reshape]; exact (View.set_slice_whole _ _).trans (set_slot s 16 1024 (by omega))
theorem set_dstE (s : Fin 2) : (dstE s).view.set = rowsOf s 1056 16 := by
  simp only [dstE, Memref.view_squeeze, View.set_reshape]; exact (View.set_slice_whole _ _).trans (set_slot s 1056 16 (by omega))
theorem set_dstL (s : Fin 2) : (dstL s).view.set = rowsOf s 0 16 := by
  simp only [dstL, Memref.view_squeeze, View.set_reshape]; exact (View.set_slice_whole _ _).trans (set_slot s 0 16 (by omega))
theorem set_dstH (s : Fin 2) : (dstH s).view.set = rowsOf s 1040 16 := by
  simp only [dstH, Memref.view_squeeze, View.set_reshape]; exact (View.set_slice_whole _ _).trans (set_slot s 1040 16 (by omega))
theorem set_dstW (s : Fin 2) : (dstW s).view.set = rowsOf s 0 1072 := by
  simp only [dstW, Memref.view_squeeze, View.set_reshape]; exact (View.set_slice_whole _ _).trans (set_slot s 0 1072 (by omega))

theorem rows_disjoint (s : Fin 2) (o n o' n' : ℕ) (h : o + n ≤ o') : Disjoint (rowsOf s o n) (rowsOf s o' n') := by
  rw [Finset.disjoint_left]; intro i; simp only [rowsOf, Finset.mem_filter, Finset.mem_univ, true_and]; omega
theorem rows_union (s : Fin 2) (o n n' : ℕ) : rowsOf s o n ∪ rowsOf s (o + n) n' = rowsOf s o (n + n') := by
  ext i; simp only [rowsOf, Finset.mem_union, Finset.mem_filter, Finset.mem_univ, true_and]; omega
theorem slots_disjoint : Disjoint (rowsOf 0 0 1072) (rowsOf 1 0 1072) := by
  rw [Finset.disjoint_left]; intro i; simp only [rowsOf, Finset.mem_filter, Finset.mem_univ, true_and]
  have : (0 : Fin 2).val = 0 := rfl
  have : (1 : Fin 2).val = 1 := rfl
  omega
theorem slots_union : rowsOf 0 0 1072 ∪ rowsOf 1 0 1072 = Finset.univ := by
  ext i
  have h0 : (i 0).val < 2 := (i 0).isLt
  have h1 : (i 1).val < 1072 := (i 1).isLt
  have e0 : (0 : Fin 2).val = 0 := rfl
  have e1 : (1 : Fin 2).val = 1 := rfl
  simp only [rowsOf, Finset.mem_union, Finset.mem_filter, Finset.mem_univ, true_and, iff_true]; omega

end Geometry

/-! ## A slot's four parts, joined and split -/

section Join
variable (c : Dev nD)

/-- The four parts at one contents are the slot at it. -/
theorem join_slot (s : Fin 2) (g : HB F c scr) :
    (iprop(part c (dstM s) fullShare g ∗ part c (dstE s) fullShare g ∗ part c (dstL s) fullShare g ∗ part c (dstH s) fullShare g) : sProp 𝕄)
      ⊣⊢ part c (dstW s) fullShare g := by
  have hM : (part c (dstM s) fullShare g : sProp 𝕄) = (scr.view.loc (c : Thread nD τ) ↦[rowsOf s 16 1024]{fullShare} g) := by unfold part; rw [set_dstM]; rfl
  have hE : (part c (dstE s) fullShare g : sProp 𝕄) = (scr.view.loc (c : Thread nD τ) ↦[rowsOf s 1056 16]{fullShare} g) := by unfold part; rw [set_dstE]; rfl
  have hL : (part c (dstL s) fullShare g : sProp 𝕄) = (scr.view.loc (c : Thread nD τ) ↦[rowsOf s 0 16]{fullShare} g) := by unfold part; rw [set_dstL]; rfl
  have hH : (part c (dstH s) fullShare g : sProp 𝕄) = (scr.view.loc (c : Thread nD τ) ↦[rowsOf s 1040 16]{fullShare} g) := by unfold part; rw [set_dstH]; rfl
  have hW : (part c (dstW s) fullShare g : sProp 𝕄) = (scr.view.loc (c : Thread nD τ) ↦[rowsOf s 0 1072]{fullShare} g) := by unfold part; rw [set_dstW]; rfl
  rw [hM, hE, hL, hH, hW]
  have u1 := pointsTo_union (Name := ℕ) (Lvl := ℕ) (U := Pipeline.UD sig nD τ) (Ix := Unit) (ℓ := scr.view.loc (c : Thread nD τ)) (q := fullShare) (f := g) (rows_disjoint s 0 16 16 1024 (by omega))
  have u2 := pointsTo_union (Name := ℕ) (Lvl := ℕ) (U := Pipeline.UD sig nD τ) (Ix := Unit) (ℓ := scr.view.loc (c : Thread nD τ)) (q := fullShare) (f := g) (rows_disjoint s 0 (16 + 1024) 1040 16 (by omega))
  have u3 := pointsTo_union (Name := ℕ) (Lvl := ℕ) (U := Pipeline.UD sig nD τ) (Ix := Unit) (ℓ := scr.view.loc (c : Thread nD τ)) (q := fullShare) (f := g) (rows_disjoint s 0 (16 + 1024 + 16) 1056 16 (by omega))
  rw [show rowsOf s 0 16 ∪ rowsOf s 16 1024 = rowsOf s 0 (16 + 1024) from rows_union s 0 16 1024] at u1
  rw [show rowsOf s 0 (16 + 1024) ∪ rowsOf s 1040 16 = rowsOf s 0 (16 + 1024 + 16) from rows_union s 0 (16 + 1024) 16] at u2
  rw [show rowsOf s 0 (16 + 1024 + 16) ∪ rowsOf s 1056 16 = rowsOf s 0 (16 + 1024 + 16 + 16) from rows_union s 0 (16 + 1024 + 16) 16] at u3
  constructor
  · iintro ⟨HM, HE, HL, HH⟩
    iapply u3.2; isplitr [HE]; swap; · iexact HE
    iapply u2.2; isplitr [HH]; swap; · iexact HH
    iapply u1.2; isplitl [HL]; · iexact HL
    iexact HM
  · iintro H
    ihave H := u3.1 $$ H
    icases H with ⟨H, HE⟩
    ihave H := u2.1 $$ H
    icases H with ⟨H, HH⟩
    ihave H := u1.1 $$ H
    icases H with ⟨HL, HM⟩
    isplitl [HM]; · iexact HM
    isplitl [HE]; · iexact HE
    isplitl [HL]; · iexact HL
    iexact HH

/-- The scratch whole at something is the two slots at something each, and back. -/
theorem scr_in : iprop(∃ d, owns (c : Thread nD τ) scr fullShare d)
    ⊢ (iprop((∃ f, part (F := F) c (dstW 0) fullShare f) ∗ ∃ f, part (F := F) c (dstW 1) fullShare f) : sProp 𝕄) := by
  have hW (s : Fin 2) (g : HB F c scr) : (part c (dstW s) fullShare g : sProp 𝕄) = (scr.view.loc (c : Thread nD τ) ↦[rowsOf s 0 1072]{fullShare} g) := by unfold part; rw [set_dstW]; rfl
  simp only [scr, owns_whole]
  iintro ⟨%d, H⟩
  have u := pointsTo_union (Name := ℕ) (Lvl := ℕ) (U := Pipeline.UD sig nD τ) (Ix := Unit) (ℓ := scr.view.loc (c : Thread nD τ)) (q := fullShare) (f := d) slots_disjoint
  rw [slots_union] at u
  ihave H := u.1 $$ H
  icases H with ⟨H0, H1⟩
  isplitl [H0]
  · iexists d; iapply (Entails.of_eq (hW 0 d).symm); iexact H0
  · iexists d; iapply (Entails.of_eq (hW 1 d).symm); iexact H1
theorem scr_out : (iprop((∃ f, part (F := F) c (dstW 0) fullShare f) ∗ ∃ f, part (F := F) c (dstW 1) fullShare f) : sProp 𝕄)
    ⊢ iprop(∃ d, owns (c : Thread nD τ) scr fullShare d) := by
  have hW (s : Fin 2) (g : HB F c scr) : (part c (dstW s) fullShare g : sProp 𝕄) = (scr.view.loc (c : Thread nD τ) ↦[rowsOf s 0 1072]{fullShare} g) := by unfold part; rw [set_dstW]; rfl
  simp only [scr, owns_whole]
  iintro ⟨⟨%f, H0⟩, ⟨%g, H1⟩⟩
  have u := pointsTo_join (Name := ℕ) (Lvl := ℕ) (U := Pipeline.UD sig nD τ) (Ix := Unit) (ℓ := scr.view.loc (c : Thread nD τ)) (q := fullShare) (f := f) (g := g) slots_disjoint
  rw [slots_union] at u
  iexists _
  iapply u
  isplitl [H0]
  · iapply (Entails.of_eq (hW 0 f)); iexact H0
  · iapply (Entails.of_eq (hW 1 g)); iexact H1

end Join

end Cert.KernelIdeal.Anchor

end
-- ==== Proof.KernelIdeal.Canon.lean ====
module

public import proofs.«01_k».proof.Proof.KernelIdeal.Slots

/-! # The body's operands at a grid point, by name: its slots, blocks and cells -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

/-- The batch of grid point `t`. -/
def bat (t : Fin grid0.N) : Fin 2 := ⟨t.val / 4 % 2, Nat.mod_lt _ (by decide)⟩

/-! ## The branch conditions in closed form -/

theorem cond1_iff : ∀ t : Fin grid0.N, k0_cond1 (grid0.coords t) = 1#1 ↔ t.val % 4 = 0 := by decide +kernel
theorem cond2_iff : ∀ t : Fin grid0.N, k0_cond2 (grid0.coords t) = 1#1 ↔ t.val % 4 < 3 := by decide +kernel
theorem cond3_iff : ∀ t : Fin grid0.N, ¬ k0_cond3 (grid0.coords t) = 1#1 := by decide +kernel
theorem cond4_iff : ∀ t : Fin grid0.N, k0_cond4 (grid0.coords t) = 1#1 := by decide +kernel
theorem cond5_iff : ∀ t : Fin grid0.N, t.val % 4 < 3 → (k0_cond5 (grid0.coords t) = 1#1 ↔ t.val % 4 = 2) := by decide +kernel
theorem cond6_iff : ∀ t : Fin grid0.N, t.val % 4 < 3 → (k0_cond6 (grid0.coords t) = 1#1 ↔ t.val % 4 < 2) := by decide +kernel

/-! ## Names -/

/-! ### At tile 0 -/

set_option synthInstance.maxSize 4096 in
theorem off_1 : ∀ t : Fin grid0.N, t.val % 4 = 0 → k0_off22 (grid0.coords t) = ![((0 : Fin 2)).val, ((0 : Fin 4)).val] := by decide +kernel
@[sl_canon] theorem canon_1 (t : Fin grid0.N) (hj : t.val % 4 = 0) :
    (cc0_scratch1.slice (Rect.unit (s := S2x4) (k0_off22 (grid0.coords t)) S1x1.size (k0_off22_inb (grid0.coords t) ))).squeeze S_ squeezes_S1x1_S_ = cellA 0 0 :=
  congrArg (fun A : DmaSems sig S1x1 => A.squeeze S_ squeezes_S1x1_S_) (SemArray.slice_unit_congr _ (off_1 t hj) _ _)
set_option synthInstance.maxSize 4096 in
theorem off_2 : ∀ t : Fin grid0.N, t.val % 4 = 0 → k0_off23 (grid0.coords t) = ![((0 : Fin 2)).val, 16, 0] := by decide +kernel
@[sl_canon] theorem canon_2 (t : Fin grid0.N) (hj : t.val % 4 = 0) :
    (scr.slice (Rect.unit (s := S2x1072x768) (k0_off23 (grid0.coords t)) S1x1024x768.size (k0_off23_inb (grid0.coords t) )) (fun _ => rfl)).squeeze S1024x768 squeezes_S1x1024x768_S1024x768 = dstM 0 :=
  congrArg (fun M : Memref sig .tc .vmem S1x1024x768 .f32 => M.squeeze S1024x768 squeezes_S1x1024x768_S1024x768) (Memref.slice_unit_congr _ (off_2 t hj) _ _ (fun _ => rfl) (fun _ => rfl))
set_option synthInstance.maxSize 4096 in
theorem off_3 : ∀ t : Fin grid0.N, t.val % 4 = 0 → k0_off25 (grid0.coords t) = ![((0 : Fin 2)).val, ((3 : Fin 4)).val] := by decide +kernel
@[sl_canon] theorem canon_3 (t : Fin grid0.N) (hj : t.val % 4 = 0) :
    (cc0_scratch1.slice (Rect.unit (s := S2x4) (k0_off25 (grid0.coords t)) S1x1.size (k0_off25_inb (grid0.coords t) ))).squeeze S_ squeezes_S1x1_S_ = cellA 0 3 :=
  congrArg (fun A : DmaSems sig S1x1 => A.squeeze S_ squeezes_S1x1_S_) (SemArray.slice_unit_congr _ (off_3 t hj) _ _)
set_option synthInstance.maxSize 4096 in
theorem off_4 : ∀ t : Fin grid0.N, t.val % 4 = 0 → k0_off26 (grid0.coords t) = ![((0 : Fin 2)).val, 1056, 0] := by decide +kernel
@[sl_canon] theorem canon_4 (t : Fin grid0.N) (hj : t.val % 4 = 0) :
    (scr.slice (Rect.unit (s := S2x1072x768) (k0_off26 (grid0.coords t)) S1x16x768.size (k0_off26_inb (grid0.coords t) )) (fun _ => rfl)).squeeze S16x768 squeezes_S1x16x768_S16x768 = dstE 0 :=
  congrArg (fun M : Memref sig .tc .vmem S1x16x768 .f32 => M.squeeze S16x768 squeezes_S1x16x768_S16x768) (Memref.slice_unit_congr _ (off_4 t hj) _ _ (fun _ => rfl) (fun _ => rfl))
set_option synthInstance.maxSize 4096 in
theorem off_5 : ∀ t : Fin grid0.N, t.val % 4 = 0 → k0_off28 (grid0.coords t) = ![((0 : Fin 2)).val, ((1 : Fin 4)).val] := by decide +kernel
@[sl_canon] theorem canon_5 (t : Fin grid0.N) (hj : t.val % 4 = 0) :
    (cc0_scratch1.slice (Rect.unit (s := S2x4) (k0_off28 (grid0.coords t)) S1x1.size (k0_off28_inb (grid0.coords t) ))).squeeze S_ squeezes_S1x1_S_ = cellA 0 1 :=
  congrArg (fun A : DmaSems sig S1x1 => A.squeeze S_ squeezes_S1x1_S_) (SemArray.slice_unit_congr _ (off_5 t hj) _ _)
set_option synthInstance.maxSize 4096 in
theorem off_6 : ∀ t : Fin grid0.N, t.val % 4 = 0 → k0_off29 (grid0.coords t) = ![((0 : Fin 2)).val, 0, 0] := by decide +kernel
@[sl_canon] theorem canon_6 (t : Fin grid0.N) (hj : t.val % 4 = 0) :
    (scr.slice (Rect.unit (s := S2x1072x768) (k0_off29 (grid0.coords t)) S1x16x768.size (k0_off29_inb (grid0.coords t) )) (fun _ => rfl)).squeeze S16x768 squeezes_S1x16x768_S16x768 = dstL 0 :=
  congrArg (fun M : Memref sig .tc .vmem S1x16x768 .f32 => M.squeeze S16x768 squeezes_S1x16x768_S16x768) (Memref.slice_unit_congr _ (off_6 t hj) _ _ (fun _ => rfl) (fun _ => rfl))
set_option synthInstance.maxSize 4096 in
theorem off_7 : ∀ t : Fin grid0.N, t.val % 4 = 0 → k0_off31 (grid0.coords t) = ![((0 : Fin 2)).val, ((2 : Fin 4)).val] := by decide +kernel
@[sl_canon] theorem canon_7 (t : Fin grid0.N) (hj : t.val % 4 = 0) :
    (cc0_scratch1.slice (Rect.unit (s := S2x4) (k0_off31 (grid0.coords t)) S1x1.size (k0_off31_inb (grid0.coords t) ))).squeeze S_ squeezes_S1x1_S_ = cellA 0 2 :=
  congrArg (fun A : DmaSems sig S1x1 => A.squeeze S_ squeezes_S1x1_S_) (SemArray.slice_unit_congr _ (off_7 t hj) _ _)
set_option synthInstance.maxSize 4096 in
theorem off_8 : ∀ t : Fin grid0.N, t.val % 4 = 0 → k0_off32 (grid0.coords t) = ![((0 : Fin 2)).val, 1040, 0] := by decide +kernel
@[sl_canon] theorem canon_8 (t : Fin grid0.N) (hj : t.val % 4 = 0) :
    (scr.slice (Rect.unit (s := S2x1072x768) (k0_off32 (grid0.coords t)) S1x16x768.size (k0_off32_inb (grid0.coords t) )) (fun _ => rfl)).squeeze S16x768 squeezes_S1x16x768_S16x768 = dstH 0 :=
  congrArg (fun M : Memref sig .tc .vmem S1x16x768 .f32 => M.squeeze S16x768 squeezes_S1x16x768_S16x768) (Memref.slice_unit_congr _ (off_8 t hj) _ _ (fun _ => rfl) (fun _ => rfl))
set_option synthInstance.maxSize 4096 in
theorem off_9 : ∀ t : Fin grid0.N, t.val % 4 = 0 → k0_off33 (grid0.coords t) = ![((0 : Fin 2)).val, 0, 0] := by decide +kernel
@[sl_canon] theorem canon_9 (t : Fin grid0.N) (hj : t.val % 4 = 0) :
    (scr.slice (Rect.unit (s := S2x1072x768) (k0_off33 (grid0.coords t)) S1x1072x768.size (k0_off33_inb (grid0.coords t) )) (fun _ => rfl)).squeeze S1072x768 squeezes_S1x1072x768_S1072x768 = dstW 0 :=
  congrArg (fun M : Memref sig .tc .vmem S1x1072x768 .f32 => M.squeeze S1072x768 squeezes_S1x1072x768_S1072x768) (Memref.slice_unit_congr _ (off_9 t hj) _ _ (fun _ => rfl) (fun _ => rfl))
set_option synthInstance.maxSize 4096 in
theorem off_10 : ∀ t : Fin grid0.N, t.val % 4 = 0 → k0_off34 (grid0.coords t) = ![0, 0, 0] := by decide +kernel
instance (priority := high) closed_0 (t : Fin grid0.N) [h : Fact (t.val % 4 = 0)] : ClosedOff (k0_off34 (grid0.coords t)) := ⟨![0, 0, 0], off_10 t h.out⟩
set_option synthInstance.maxSize 4096 in
theorem off_11 : ∀ t : Fin grid0.N, t.val % 4 = 0 → k0_off1 (grid0.coords t) = ![(bat t).val, 1024 * ((0 : Fin 4)).val, 0] := by decide +kernel
@[sl_canon] theorem canon_11 (t : Fin grid0.N) (hj : t.val % 4 = 0) (h1 : k0_cond1 (grid0.coords t) = 1#1) :
    (hx.slice (Rect.unit (s := S2x4096x768) (k0_off1 (grid0.coords t)) S1x1024x768.size (k0_off1_inb (grid0.coords t) h1)) (fun _ => rfl)).squeeze S1024x768 squeezes_S1x1024x768_S1024x768 = srcM (bat t) 0 :=
  congrArg (fun M : Memref sig .tc .hbm S1x1024x768 .f32 => M.squeeze S1024x768 squeezes_S1x1024x768_S1024x768) (Memref.slice_unit_congr _ (off_11 t hj) _ _ (fun _ => rfl) (fun _ => rfl))
set_option synthInstance.maxSize 4096 in
theorem off_12 : ∀ t : Fin grid0.N, t.val % 4 = 0 → k0_off2 (grid0.coords t) = ![(bat t).val, 0, 0] := by decide +kernel
@[sl_canon] theorem canon_12 (t : Fin grid0.N) (hj : t.val % 4 = 0) (h1 : k0_cond1 (grid0.coords t) = 1#1) :
    (hed.slice (Rect.unit (s := S2x16x768) (k0_off2 (grid0.coords t)) S1x16x768.size (k0_off2_inb (grid0.coords t) h1)) (fun _ => rfl)).squeeze S16x768 squeezes_S1x16x768_S16x768 = srcE (bat t) :=
  congrArg (fun M : Memref sig .tc .hbm S1x16x768 .f32 => M.squeeze S16x768 squeezes_S1x16x768_S16x768) (Memref.slice_unit_congr _ (off_12 t hj) _ _ (fun _ => rfl) (fun _ => rfl))
set_option synthInstance.maxSize 4096 in
theorem off_13 : ∀ t : Fin grid0.N, t.val % 4 = 0 → k0_off2 (grid0.coords t) = ![(bat t).val, 0, 0] := by decide +kernel
@[sl_canon] theorem canon_13 (t : Fin grid0.N) (hj : t.val % 4 = 0) (h1 : k0_cond1 (grid0.coords t) = 1#1) :
    (hlo.slice (Rect.unit (s := S2x16x768) (k0_off2 (grid0.coords t)) S1x16x768.size (k0_off2_inb (grid0.coords t) h1)) (fun _ => rfl)).squeeze S16x768 squeezes_S1x16x768_S16x768 = srcPL (bat t) :=
  congrArg (fun M : Memref sig .tc .hbm S1x16x768 .f32 => M.squeeze S16x768 squeezes_S1x16x768_S16x768) (Memref.slice_unit_congr _ (off_13 t hj) _ _ (fun _ => rfl) (fun _ => rfl))
set_option synthInstance.maxSize 4096 in
theorem off_14 : ∀ t : Fin grid0.N, t.val % 4 = 0 → k0_off3 (grid0.coords t) = ![(bat t).val, 1024 * (((0 : Fin 4)).val % 3) + 1024, 0] := by decide +kernel
@[sl_canon] theorem canon_14 (t : Fin grid0.N) (hj : t.val % 4 = 0) (h1 : k0_cond1 (grid0.coords t) = 1#1) :
    (hx.slice (Rect.unit (s := S2x4096x768) (k0_off3 (grid0.coords t)) S1x16x768.size (k0_off3_inb (grid0.coords t) h1)) (fun _ => rfl)).squeeze S16x768 squeezes_S1x16x768_S16x768 = srcH (bat t) 0 :=
  congrArg (fun M : Memref sig .tc .hbm S1x16x768 .f32 => M.squeeze S16x768 squeezes_S1x16x768_S16x768) (Memref.slice_unit_congr _ (off_14 t hj) _ _ (fun _ => rfl) (fun _ => rfl))
@[sl_canon] theorem canon_15 : (scr.slice (Rect.unit (s := S2x1072x768) ![0, 16, 0] S1x1024x768.size inb_S2x1072x768_S1x1024x768_0_16_0) (fun _ => rfl)).squeeze S1024x768 squeezes_S1x1024x768_S1024x768 = dstM 0 := rfl
@[sl_canon] theorem canon_16 : (scr.slice (Rect.unit (s := S2x1072x768) ![0, 1056, 0] S1x16x768.size inb_S2x1072x768_S1x16x768_0_1056_0) (fun _ => rfl)).squeeze S16x768 squeezes_S1x16x768_S16x768 = dstE 0 := rfl
@[sl_canon] theorem canon_17 : (scr.slice (Rect.unit (s := S2x1072x768) ![0, 0, 0] S1x16x768.size inb_S2x1072x768_S1x16x768_0_0_0) (fun _ => rfl)).squeeze S16x768 squeezes_S1x16x768_S16x768 = dstL 0 := rfl
@[sl_canon] theorem canon_18 : (scr.slice (Rect.unit (s := S2x1072x768) ![0, 1040, 0] S1x16x768.size inb_S2x1072x768_S1x16x768_0_1040_0) (fun _ => rfl)).squeeze S16x768 squeezes_S1x16x768_S16x768 = dstH 0 := rfl
@[sl_canon] theorem canon_19 : (cc0_scratch1.slice (Rect.unit (s := S2x4) ![0, 0] S1x1.size inb_S2x4_S1x1_0_0)).squeeze S_ squeezes_S1x1_S_ = cellA 0 0 := rfl
@[sl_canon] theorem canon_20 : (cc0_scratch1.slice (Rect.unit (s := S2x4) ![0, 1] S1x1.size inb_S2x4_S1x1_0_1)).squeeze S_ squeezes_S1x1_S_ = cellA 0 1 := rfl
@[sl_canon] theorem canon_21 : (cc0_scratch1.slice (Rect.unit (s := S2x4) ![0, 2] S1x1.size inb_S2x4_S1x1_0_2)).squeeze S_ squeezes_S1x1_S_ = cellA 0 2 := rfl
@[sl_canon] theorem canon_22 : (cc0_scratch1.slice (Rect.unit (s := S2x4) ![0, 3] S1x1.size inb_S2x4_S1x1_0_3)).squeeze S_ squeezes_S1x1_S_ = cellA 0 3 := rfl
set_option synthInstance.maxSize 4096 in
theorem off_23 : ∀ t : Fin grid0.N, t.val % 4 = 0 → k0_off4 (grid0.coords t) = ![((1 : Fin 2)).val, ((0 : Fin 4)).val] := by decide +kernel
@[sl_canon] theorem canon_23 (t : Fin grid0.N) (hj : t.val % 4 = 0) (h2 : k0_cond2 (grid0.coords t) = 1#1) :
    (cc0_scratch1.slice (Rect.unit (s := S2x4) (k0_off4 (grid0.coords t)) S1x1.size (k0_off4_inb (grid0.coords t) h2))).squeeze S_ squeezes_S1x1_S_ = cellA 1 0 :=
  congrArg (fun A : DmaSems sig S1x1 => A.squeeze S_ squeezes_S1x1_S_) (SemArray.slice_unit_congr _ (off_23 t hj) _ _)
set_option synthInstance.maxSize 4096 in
theorem off_24 : ∀ t : Fin grid0.N, t.val % 4 = 0 → k0_off5 (grid0.coords t) = ![((1 : Fin 2)).val, 16, 0] := by decide +kernel
@[sl_canon] theorem canon_24 (t : Fin grid0.N) (hj : t.val % 4 = 0) (h2 : k0_cond2 (grid0.coords t) = 1#1) :
    (scr.slice (Rect.unit (s := S2x1072x768) (k0_off5 (grid0.coords t)) S1x1024x768.size (k0_off5_inb (grid0.coords t) h2)) (fun _ => rfl)).squeeze S1024x768 squeezes_S1x1024x768_S1024x768 = dstM 1 :=
  congrArg (fun M : Memref sig .tc .vmem S1x1024x768 .f32 => M.squeeze S1024x768 squeezes_S1x1024x768_S1024x768) (Memref.slice_unit_congr _ (off_24 t hj) _ _ (fun _ => rfl) (fun _ => rfl))
set_option synthInstance.maxSize 4096 in
theorem off_25 : ∀ t : Fin grid0.N, t.val % 4 = 0 → k0_off6 (grid0.coords t) = ![(bat t).val, 1024 * ((1 : Fin 4)).val, 0] := by decide +kernel
@[sl_canon] theorem canon_25 (t : Fin grid0.N) (hj : t.val % 4 = 0) (h2 : k0_cond2 (grid0.coords t) = 1#1) :
    (hx.slice (Rect.unit (s := S2x4096x768) (k0_off6 (grid0.coords t)) S1x1024x768.size (k0_off6_inb (grid0.coords t) h2)) (fun _ => rfl)).squeeze S1024x768 squeezes_S1x1024x768_S1024x768 = srcM (bat t) 1 :=
  congrArg (fun M : Memref sig .tc .hbm S1x1024x768 .f32 => M.squeeze S1024x768 squeezes_S1x1024x768_S1024x768) (Memref.slice_unit_congr _ (off_25 t hj) _ _ (fun _ => rfl) (fun _ => rfl))
set_option synthInstance.maxSize 4096 in
theorem off_26 : ∀ t : Fin grid0.N, t.val % 4 = 0 → k0_off7 (grid0.coords t) = ![((1 : Fin 2)).val, ((3 : Fin 4)).val] := by decide +kernel
@[sl_canon] theorem canon_26 (t : Fin grid0.N) (hj : t.val % 4 = 0) (h2 : k0_cond2 (grid0.coords t) = 1#1) :
    (cc0_scratch1.slice (Rect.unit (s := S2x4) (k0_off7 (grid0.coords t)) S1x1.size (k0_off7_inb (grid0.coords t) h2))).squeeze S_ squeezes_S1x1_S_ = cellA 1 3 :=
  congrArg (fun A : DmaSems sig S1x1 => A.squeeze S_ squeezes_S1x1_S_) (SemArray.slice_unit_congr _ (off_26 t hj) _ _)
set_option synthInstance.maxSize 4096 in
theorem off_27 : ∀ t : Fin grid0.N, t.val % 4 = 0 → k0_off8 (grid0.coords t) = ![((1 : Fin 2)).val, 1056, 0] := by decide +kernel
@[sl_canon] theorem canon_27 (t : Fin grid0.N) (hj : t.val % 4 = 0) (h2 : k0_cond2 (grid0.coords t) = 1#1) :
    (scr.slice (Rect.unit (s := S2x1072x768) (k0_off8 (grid0.coords t)) S1x16x768.size (k0_off8_inb (grid0.coords t) h2)) (fun _ => rfl)).squeeze S16x768 squeezes_S1x16x768_S16x768 = dstE 1 :=
  congrArg (fun M : Memref sig .tc .vmem S1x16x768 .f32 => M.squeeze S16x768 squeezes_S1x16x768_S16x768) (Memref.slice_unit_congr _ (off_27 t hj) _ _ (fun _ => rfl) (fun _ => rfl))
set_option synthInstance.maxSize 4096 in
theorem off_28 : ∀ t : Fin grid0.N, t.val % 4 = 0 → k0_off9 (grid0.coords t) = ![(bat t).val, 0, 0] := by decide +kernel
@[sl_canon] theorem canon_28 (t : Fin grid0.N) (hj : t.val % 4 = 0) (h2 : k0_cond2 (grid0.coords t) = 1#1) :
    (hed.slice (Rect.unit (s := S2x16x768) (k0_off9 (grid0.coords t)) S1x16x768.size (k0_off9_inb (grid0.coords t) h2)) (fun _ => rfl)).squeeze S16x768 squeezes_S1x16x768_S16x768 = srcE (bat t) :=
  congrArg (fun M : Memref sig .tc .hbm S1x16x768 .f32 => M.squeeze S16x768 squeezes_S1x16x768_S16x768) (Memref.slice_unit_congr _ (off_28 t hj) _ _ (fun _ => rfl) (fun _ => rfl))
set_option synthInstance.maxSize 4096 in
theorem off_29 : ∀ t : Fin grid0.N, t.val % 4 = 0 → k0_off13 (grid0.coords t) = ![((1 : Fin 2)).val, ((1 : Fin 4)).val] := by decide +kernel
@[sl_canon] theorem canon_29 (t : Fin grid0.N) (hj : t.val % 4 = 0) (h2 : k0_cond2 (grid0.coords t) = 1#1) (h4 : k0_cond4 (grid0.coords t) = 1#1) :
    (cc0_scratch1.slice (Rect.unit (s := S2x4) (k0_off13 (grid0.coords t)) S1x1.size (k0_off13_inb (grid0.coords t) h2 h4))).squeeze S_ squeezes_S1x1_S_ = cellA 1 1 :=
  congrArg (fun A : DmaSems sig S1x1 => A.squeeze S_ squeezes_S1x1_S_) (SemArray.slice_unit_congr _ (off_29 t hj) _ _)
set_option synthInstance.maxSize 4096 in
theorem off_30 : ∀ t : Fin grid0.N, t.val % 4 = 0 → k0_off14 (grid0.coords t) = ![((1 : Fin 2)).val, 0, 0] := by decide +kernel
@[sl_canon] theorem canon_30 (t : Fin grid0.N) (hj : t.val % 4 = 0) (h2 : k0_cond2 (grid0.coords t) = 1#1) (h4 : k0_cond4 (grid0.coords t) = 1#1) :
    (scr.slice (Rect.unit (s := S2x1072x768) (k0_off14 (grid0.coords t)) S1x16x768.size (k0_off14_inb (grid0.coords t) h2 h4)) (fun _ => rfl)).squeeze S16x768 squeezes_S1x16x768_S16x768 = dstL 1 :=
  congrArg (fun M : Memref sig .tc .vmem S1x16x768 .f32 => M.squeeze S16x768 squeezes_S1x16x768_S16x768) (Memref.slice_unit_congr _ (off_30 t hj) _ _ (fun _ => rfl) (fun _ => rfl))
set_option synthInstance.maxSize 4096 in
theorem off_31 : ∀ t : Fin grid0.N, t.val % 4 = 0 → k0_off15 (grid0.coords t) = ![(bat t).val, 1024 * ((1 : Fin 4)).val - 16, 0] := by decide +kernel
@[sl_canon] theorem canon_31 (t : Fin grid0.N) (hj : t.val % 4 = 0) (h2 : k0_cond2 (grid0.coords t) = 1#1) (h4 : k0_cond4 (grid0.coords t) = 1#1) :
    (hx.slice (Rect.unit (s := S2x4096x768) (k0_off15 (grid0.coords t)) S1x16x768.size (k0_off15_inb (grid0.coords t) h2 h4)) (fun _ => rfl)).squeeze S16x768 squeezes_S1x16x768_S16x768 = srcL (bat t) 1 :=
  congrArg (fun M : Memref sig .tc .hbm S1x16x768 .f32 => M.squeeze S16x768 squeezes_S1x16x768_S16x768) (Memref.slice_unit_congr _ (off_31 t hj) _ _ (fun _ => rfl) (fun _ => rfl))
set_option synthInstance.maxSize 4096 in
theorem off_32 : ∀ t : Fin grid0.N, t.val % 4 = 0 → k0_off19 (grid0.coords t) = ![((1 : Fin 2)).val, ((2 : Fin 4)).val] := by decide +kernel
@[sl_canon] theorem canon_32 (t : Fin grid0.N) (hj : t.val % 4 = 0) (h2 : k0_cond2 (grid0.coords t) = 1#1) (h6 : k0_cond6 (grid0.coords t) = 1#1) :
    (cc0_scratch1.slice (Rect.unit (s := S2x4) (k0_off19 (grid0.coords t)) S1x1.size (k0_off19_inb (grid0.coords t) h2 h6))).squeeze S_ squeezes_S1x1_S_ = cellA 1 2 :=
  congrArg (fun A : DmaSems sig S1x1 => A.squeeze S_ squeezes_S1x1_S_) (SemArray.slice_unit_congr _ (off_32 t hj) _ _)
set_option synthInstance.maxSize 4096 in
theorem off_33 : ∀ t : Fin grid0.N, t.val % 4 = 0 → k0_off20 (grid0.coords t) = ![((1 : Fin 2)).val, 1040, 0] := by decide +kernel
@[sl_canon] theorem canon_33 (t : Fin grid0.N) (hj : t.val % 4 = 0) (h2 : k0_cond2 (grid0.coords t) = 1#1) (h6 : k0_cond6 (grid0.coords t) = 1#1) :
    (scr.slice (Rect.unit (s := S2x1072x768) (k0_off20 (grid0.coords t)) S1x16x768.size (k0_off20_inb (grid0.coords t) h2 h6)) (fun _ => rfl)).squeeze S16x768 squeezes_S1x16x768_S16x768 = dstH 1 :=
  congrArg (fun M : Memref sig .tc .vmem S1x16x768 .f32 => M.squeeze S16x768 squeezes_S1x16x768_S16x768) (Memref.slice_unit_congr _ (off_33 t hj) _ _ (fun _ => rfl) (fun _ => rfl))
set_option synthInstance.maxSize 4096 in
theorem off_34 : ∀ t : Fin grid0.N, t.val % 4 = 0 → k0_off21 (grid0.coords t) = ![(bat t).val, 1024 * (((1 : Fin 4)).val % 3) + 1024, 0] := by decide +kernel
@[sl_canon] theorem canon_34 (t : Fin grid0.N) (hj : t.val % 4 = 0) (h2 : k0_cond2 (grid0.coords t) = 1#1) (h6 : k0_cond6 (grid0.coords t) = 1#1) :
    (hx.slice (Rect.unit (s := S2x4096x768) (k0_off21 (grid0.coords t)) S1x16x768.size (k0_off21_inb (grid0.coords t) h2 h6)) (fun _ => rfl)).squeeze S16x768 squeezes_S1x16x768_S16x768 = srcH (bat t) 1 :=
  congrArg (fun M : Memref sig .tc .hbm S1x16x768 .f32 => M.squeeze S16x768 squeezes_S1x16x768_S16x768) (Memref.slice_unit_congr _ (off_34 t hj) _ _ (fun _ => rfl) (fun _ => rfl))

/-! ### At tile 1 -/

set_option synthInstance.maxSize 4096 in
theorem off_35 : ∀ t : Fin grid0.N, t.val % 4 = 1 → k0_off22 (grid0.coords t) = ![((1 : Fin 2)).val, ((0 : Fin 4)).val] := by decide +kernel
@[sl_canon] theorem canon_35 (t : Fin grid0.N) (hj : t.val % 4 = 1) :
    (cc0_scratch1.slice (Rect.unit (s := S2x4) (k0_off22 (grid0.coords t)) S1x1.size (k0_off22_inb (grid0.coords t) ))).squeeze S_ squeezes_S1x1_S_ = cellA 1 0 :=
  congrArg (fun A : DmaSems sig S1x1 => A.squeeze S_ squeezes_S1x1_S_) (SemArray.slice_unit_congr _ (off_35 t hj) _ _)
set_option synthInstance.maxSize 4096 in
theorem off_36 : ∀ t : Fin grid0.N, t.val % 4 = 1 → k0_off23 (grid0.coords t) = ![((1 : Fin 2)).val, 16, 0] := by decide +kernel
@[sl_canon] theorem canon_36 (t : Fin grid0.N) (hj : t.val % 4 = 1) :
    (scr.slice (Rect.unit (s := S2x1072x768) (k0_off23 (grid0.coords t)) S1x1024x768.size (k0_off23_inb (grid0.coords t) )) (fun _ => rfl)).squeeze S1024x768 squeezes_S1x1024x768_S1024x768 = dstM 1 :=
  congrArg (fun M : Memref sig .tc .vmem S1x1024x768 .f32 => M.squeeze S1024x768 squeezes_S1x1024x768_S1024x768) (Memref.slice_unit_congr _ (off_36 t hj) _ _ (fun _ => rfl) (fun _ => rfl))
set_option synthInstance.maxSize 4096 in
theorem off_37 : ∀ t : Fin grid0.N, t.val % 4 = 1 → k0_off25 (grid0.coords t) = ![((1 : Fin 2)).val, ((3 : Fin 4)).val] := by decide +kernel
@[sl_canon] theorem canon_37 (t : Fin grid0.N) (hj : t.val % 4 = 1) :
    (cc0_scratch1.slice (Rect.unit (s := S2x4) (k0_off25 (grid0.coords t)) S1x1.size (k0_off25_inb (grid0.coords t) ))).squeeze S_ squeezes_S1x1_S_ = cellA 1 3 :=
  congrArg (fun A : DmaSems sig S1x1 => A.squeeze S_ squeezes_S1x1_S_) (SemArray.slice_unit_congr _ (off_37 t hj) _ _)
set_option synthInstance.maxSize 4096 in
theorem off_38 : ∀ t : Fin grid0.N, t.val % 4 = 1 → k0_off26 (grid0.coords t) = ![((1 : Fin 2)).val, 1056, 0] := by decide +kernel
@[sl_canon] theorem canon_38 (t : Fin grid0.N) (hj : t.val % 4 = 1) :
    (scr.slice (Rect.unit (s := S2x1072x768) (k0_off26 (grid0.coords t)) S1x16x768.size (k0_off26_inb (grid0.coords t) )) (fun _ => rfl)).squeeze S16x768 squeezes_S1x16x768_S16x768 = dstE 1 :=
  congrArg (fun M : Memref sig .tc .vmem S1x16x768 .f32 => M.squeeze S16x768 squeezes_S1x16x768_S16x768) (Memref.slice_unit_congr _ (off_38 t hj) _ _ (fun _ => rfl) (fun _ => rfl))
set_option synthInstance.maxSize 4096 in
theorem off_39 : ∀ t : Fin grid0.N, t.val % 4 = 1 → k0_off28 (grid0.coords t) = ![((1 : Fin 2)).val, ((1 : Fin 4)).val] := by decide +kernel
@[sl_canon] theorem canon_39 (t : Fin grid0.N) (hj : t.val % 4 = 1) :
    (cc0_scratch1.slice (Rect.unit (s := S2x4) (k0_off28 (grid0.coords t)) S1x1.size (k0_off28_inb (grid0.coords t) ))).squeeze S_ squeezes_S1x1_S_ = cellA 1 1 :=
  congrArg (fun A : DmaSems sig S1x1 => A.squeeze S_ squeezes_S1x1_S_) (SemArray.slice_unit_congr _ (off_39 t hj) _ _)
set_option synthInstance.maxSize 4096 in
theorem off_40 : ∀ t : Fin grid0.N, t.val % 4 = 1 → k0_off29 (grid0.coords t) = ![((1 : Fin 2)).val, 0, 0] := by decide +kernel
@[sl_canon] theorem canon_40 (t : Fin grid0.N) (hj : t.val % 4 = 1) :
    (scr.slice (Rect.unit (s := S2x1072x768) (k0_off29 (grid0.coords t)) S1x16x768.size (k0_off29_inb (grid0.coords t) )) (fun _ => rfl)).squeeze S16x768 squeezes_S1x16x768_S16x768 = dstL 1 :=
  congrArg (fun M : Memref sig .tc .vmem S1x16x768 .f32 => M.squeeze S16x768 squeezes_S1x16x768_S16x768) (Memref.slice_unit_congr _ (off_40 t hj) _ _ (fun _ => rfl) (fun _ => rfl))
set_option synthInstance.maxSize 4096 in
theorem off_41 : ∀ t : Fin grid0.N, t.val % 4 = 1 → k0_off31 (grid0.coords t) = ![((1 : Fin 2)).val, ((2 : Fin 4)).val] := by decide +kernel
@[sl_canon] theorem canon_41 (t : Fin grid0.N) (hj : t.val % 4 = 1) :
    (cc0_scratch1.slice (Rect.unit (s := S2x4) (k0_off31 (grid0.coords t)) S1x1.size (k0_off31_inb (grid0.coords t) ))).squeeze S_ squeezes_S1x1_S_ = cellA 1 2 :=
  congrArg (fun A : DmaSems sig S1x1 => A.squeeze S_ squeezes_S1x1_S_) (SemArray.slice_unit_congr _ (off_41 t hj) _ _)
set_option synthInstance.maxSize 4096 in
theorem off_42 : ∀ t : Fin grid0.N, t.val % 4 = 1 → k0_off32 (grid0.coords t) = ![((1 : Fin 2)).val, 1040, 0] := by decide +kernel
@[sl_canon] theorem canon_42 (t : Fin grid0.N) (hj : t.val % 4 = 1) :
    (scr.slice (Rect.unit (s := S2x1072x768) (k0_off32 (grid0.coords t)) S1x16x768.size (k0_off32_inb (grid0.coords t) )) (fun _ => rfl)).squeeze S16x768 squeezes_S1x16x768_S16x768 = dstH 1 :=
  congrArg (fun M : Memref sig .tc .vmem S1x16x768 .f32 => M.squeeze S16x768 squeezes_S1x16x768_S16x768) (Memref.slice_unit_congr _ (off_42 t hj) _ _ (fun _ => rfl) (fun _ => rfl))
set_option synthInstance.maxSize 4096 in
theorem off_43 : ∀ t : Fin grid0.N, t.val % 4 = 1 → k0_off33 (grid0.coords t) = ![((1 : Fin 2)).val, 0, 0] := by decide +kernel
@[sl_canon] theorem canon_43 (t : Fin grid0.N) (hj : t.val % 4 = 1) :
    (scr.slice (Rect.unit (s := S2x1072x768) (k0_off33 (grid0.coords t)) S1x1072x768.size (k0_off33_inb (grid0.coords t) )) (fun _ => rfl)).squeeze S1072x768 squeezes_S1x1072x768_S1072x768 = dstW 1 :=
  congrArg (fun M : Memref sig .tc .vmem S1x1072x768 .f32 => M.squeeze S1072x768 squeezes_S1x1072x768_S1072x768) (Memref.slice_unit_congr _ (off_43 t hj) _ _ (fun _ => rfl) (fun _ => rfl))
set_option synthInstance.maxSize 4096 in
theorem off_44 : ∀ t : Fin grid0.N, t.val % 4 = 1 → k0_off34 (grid0.coords t) = ![1, 0, 0] := by decide +kernel
instance (priority := high) closed_1 (t : Fin grid0.N) [h : Fact (t.val % 4 = 1)] : ClosedOff (k0_off34 (grid0.coords t)) := ⟨![1, 0, 0], off_44 t h.out⟩
set_option synthInstance.maxSize 4096 in
theorem off_45 : ∀ t : Fin grid0.N, t.val % 4 = 1 → k0_off4 (grid0.coords t) = ![((0 : Fin 2)).val, ((0 : Fin 4)).val] := by decide +kernel
@[sl_canon] theorem canon_45 (t : Fin grid0.N) (hj : t.val % 4 = 1) (h2 : k0_cond2 (grid0.coords t) = 1#1) :
    (cc0_scratch1.slice (Rect.unit (s := S2x4) (k0_off4 (grid0.coords t)) S1x1.size (k0_off4_inb (grid0.coords t) h2))).squeeze S_ squeezes_S1x1_S_ = cellA 0 0 :=
  congrArg (fun A : DmaSems sig S1x1 => A.squeeze S_ squeezes_S1x1_S_) (SemArray.slice_unit_congr _ (off_45 t hj) _ _)
set_option synthInstance.maxSize 4096 in
theorem off_46 : ∀ t : Fin grid0.N, t.val % 4 = 1 → k0_off5 (grid0.coords t) = ![((0 : Fin 2)).val, 16, 0] := by decide +kernel
@[sl_canon] theorem canon_46 (t : Fin grid0.N) (hj : t.val % 4 = 1) (h2 : k0_cond2 (grid0.coords t) = 1#1) :
    (scr.slice (Rect.unit (s := S2x1072x768) (k0_off5 (grid0.coords t)) S1x1024x768.size (k0_off5_inb (grid0.coords t) h2)) (fun _ => rfl)).squeeze S1024x768 squeezes_S1x1024x768_S1024x768 = dstM 0 :=
  congrArg (fun M : Memref sig .tc .vmem S1x1024x768 .f32 => M.squeeze S1024x768 squeezes_S1x1024x768_S1024x768) (Memref.slice_unit_congr _ (off_46 t hj) _ _ (fun _ => rfl) (fun _ => rfl))
set_option synthInstance.maxSize 4096 in
theorem off_47 : ∀ t : Fin grid0.N, t.val % 4 = 1 → k0_off6 (grid0.coords t) = ![(bat t).val, 1024 * ((2 : Fin 4)).val, 0] := by decide +kernel
@[sl_canon] theorem canon_47 (t : Fin grid0.N) (hj : t.val % 4 = 1) (h2 : k0_cond2 (grid0.coords t) = 1#1) :
    (hx.slice (Rect.unit (s := S2x4096x768) (k0_off6 (grid0.coords t)) S1x1024x768.size (k0_off6_inb (grid0.coords t) h2)) (fun _ => rfl)).squeeze S1024x768 squeezes_S1x1024x768_S1024x768 = srcM (bat t) 2 :=
  congrArg (fun M : Memref sig .tc .hbm S1x1024x768 .f32 => M.squeeze S1024x768 squeezes_S1x1024x768_S1024x768) (Memref.slice_unit_congr _ (off_47 t hj) _ _ (fun _ => rfl) (fun _ => rfl))
set_option synthInstance.maxSize 4096 in
theorem off_48 : ∀ t : Fin grid0.N, t.val % 4 = 1 → k0_off7 (grid0.coords t) = ![((0 : Fin 2)).val, ((3 : Fin 4)).val] := by decide +kernel
@[sl_canon] theorem canon_48 (t : Fin grid0.N) (hj : t.val % 4 = 1) (h2 : k0_cond2 (grid0.coords t) = 1#1) :
    (cc0_scratch1.slice (Rect.unit (s := S2x4) (k0_off7 (grid0.coords t)) S1x1.size (k0_off7_inb (grid0.coords t) h2))).squeeze S_ squeezes_S1x1_S_ = cellA 0 3 :=
  congrArg (fun A : DmaSems sig S1x1 => A.squeeze S_ squeezes_S1x1_S_) (SemArray.slice_unit_congr _ (off_48 t hj) _ _)
set_option synthInstance.maxSize 4096 in
theorem off_49 : ∀ t : Fin grid0.N, t.val % 4 = 1 → k0_off8 (grid0.coords t) = ![((0 : Fin 2)).val, 1056, 0] := by decide +kernel
@[sl_canon] theorem canon_49 (t : Fin grid0.N) (hj : t.val % 4 = 1) (h2 : k0_cond2 (grid0.coords t) = 1#1) :
    (scr.slice (Rect.unit (s := S2x1072x768) (k0_off8 (grid0.coords t)) S1x16x768.size (k0_off8_inb (grid0.coords t) h2)) (fun _ => rfl)).squeeze S16x768 squeezes_S1x16x768_S16x768 = dstE 0 :=
  congrArg (fun M : Memref sig .tc .vmem S1x16x768 .f32 => M.squeeze S16x768 squeezes_S1x16x768_S16x768) (Memref.slice_unit_congr _ (off_49 t hj) _ _ (fun _ => rfl) (fun _ => rfl))
set_option synthInstance.maxSize 4096 in
theorem off_50 : ∀ t : Fin grid0.N, t.val % 4 = 1 → k0_off9 (grid0.coords t) = ![(bat t).val, 0, 0] := by decide +kernel
@[sl_canon] theorem canon_50 (t : Fin grid0.N) (hj : t.val % 4 = 1) (h2 : k0_cond2 (grid0.coords t) = 1#1) :
    (hed.slice (Rect.unit (s := S2x16x768) (k0_off9 (grid0.coords t)) S1x16x768.size (k0_off9_inb (grid0.coords t) h2)) (fun _ => rfl)).squeeze S16x768 squeezes_S1x16x768_S16x768 = srcE (bat t) :=
  congrArg (fun M : Memref sig .tc .hbm S1x16x768 .f32 => M.squeeze S16x768 squeezes_S1x16x768_S16x768) (Memref.slice_unit_congr _ (off_50 t hj) _ _ (fun _ => rfl) (fun _ => rfl))
set_option synthInstance.maxSize 4096 in
theorem off_51 : ∀ t : Fin grid0.N, t.val % 4 = 1 → k0_off13 (grid0.coords t) = ![((0 : Fin 2)).val, ((1 : Fin 4)).val] := by decide +kernel
@[sl_canon] theorem canon_51 (t : Fin grid0.N) (hj : t.val % 4 = 1) (h2 : k0_cond2 (grid0.coords t) = 1#1) (h4 : k0_cond4 (grid0.coords t) = 1#1) :
    (cc0_scratch1.slice (Rect.unit (s := S2x4) (k0_off13 (grid0.coords t)) S1x1.size (k0_off13_inb (grid0.coords t) h2 h4))).squeeze S_ squeezes_S1x1_S_ = cellA 0 1 :=
  congrArg (fun A : DmaSems sig S1x1 => A.squeeze S_ squeezes_S1x1_S_) (SemArray.slice_unit_congr _ (off_51 t hj) _ _)
set_option synthInstance.maxSize 4096 in
theorem off_52 : ∀ t : Fin grid0.N, t.val % 4 = 1 → k0_off14 (grid0.coords t) = ![((0 : Fin 2)).val, 0, 0] := by decide +kernel
@[sl_canon] theorem canon_52 (t : Fin grid0.N) (hj : t.val % 4 = 1) (h2 : k0_cond2 (grid0.coords t) = 1#1) (h4 : k0_cond4 (grid0.coords t) = 1#1) :
    (scr.slice (Rect.unit (s := S2x1072x768) (k0_off14 (grid0.coords t)) S1x16x768.size (k0_off14_inb (grid0.coords t) h2 h4)) (fun _ => rfl)).squeeze S16x768 squeezes_S1x16x768_S16x768 = dstL 0 :=
  congrArg (fun M : Memref sig .tc .vmem S1x16x768 .f32 => M.squeeze S16x768 squeezes_S1x16x768_S16x768) (Memref.slice_unit_congr _ (off_52 t hj) _ _ (fun _ => rfl) (fun _ => rfl))
set_option synthInstance.maxSize 4096 in
theorem off_53 : ∀ t : Fin grid0.N, t.val % 4 = 1 → k0_off15 (grid0.coords t) = ![(bat t).val, 1024 * ((2 : Fin 4)).val - 16, 0] := by decide +kernel
@[sl_canon] theorem canon_53 (t : Fin grid0.N) (hj : t.val % 4 = 1) (h2 : k0_cond2 (grid0.coords t) = 1#1) (h4 : k0_cond4 (grid0.coords t) = 1#1) :
    (hx.slice (Rect.unit (s := S2x4096x768) (k0_off15 (grid0.coords t)) S1x16x768.size (k0_off15_inb (grid0.coords t) h2 h4)) (fun _ => rfl)).squeeze S16x768 squeezes_S1x16x768_S16x768 = srcL (bat t) 2 :=
  congrArg (fun M : Memref sig .tc .hbm S1x16x768 .f32 => M.squeeze S16x768 squeezes_S1x16x768_S16x768) (Memref.slice_unit_congr _ (off_53 t hj) _ _ (fun _ => rfl) (fun _ => rfl))
set_option synthInstance.maxSize 4096 in
theorem off_54 : ∀ t : Fin grid0.N, t.val % 4 = 1 → k0_off19 (grid0.coords t) = ![((0 : Fin 2)).val, ((2 : Fin 4)).val] := by decide +kernel
@[sl_canon] theorem canon_54 (t : Fin grid0.N) (hj : t.val % 4 = 1) (h2 : k0_cond2 (grid0.coords t) = 1#1) (h6 : k0_cond6 (grid0.coords t) = 1#1) :
    (cc0_scratch1.slice (Rect.unit (s := S2x4) (k0_off19 (grid0.coords t)) S1x1.size (k0_off19_inb (grid0.coords t) h2 h6))).squeeze S_ squeezes_S1x1_S_ = cellA 0 2 :=
  congrArg (fun A : DmaSems sig S1x1 => A.squeeze S_ squeezes_S1x1_S_) (SemArray.slice_unit_congr _ (off_54 t hj) _ _)
set_option synthInstance.maxSize 4096 in
theorem off_55 : ∀ t : Fin grid0.N, t.val % 4 = 1 → k0_off20 (grid0.coords t) = ![((0 : Fin 2)).val, 1040, 0] := by decide +kernel
@[sl_canon] theorem canon_55 (t : Fin grid0.N) (hj : t.val % 4 = 1) (h2 : k0_cond2 (grid0.coords t) = 1#1) (h6 : k0_cond6 (grid0.coords t) = 1#1) :
    (scr.slice (Rect.unit (s := S2x1072x768) (k0_off20 (grid0.coords t)) S1x16x768.size (k0_off20_inb (grid0.coords t) h2 h6)) (fun _ => rfl)).squeeze S16x768 squeezes_S1x16x768_S16x768 = dstH 0 :=
  congrArg (fun M : Memref sig .tc .vmem S1x16x768 .f32 => M.squeeze S16x768 squeezes_S1x16x768_S16x768) (Memref.slice_unit_congr _ (off_55 t hj) _ _ (fun _ => rfl) (fun _ => rfl))
set_option synthInstance.maxSize 4096 in
theorem off_56 : ∀ t : Fin grid0.N, t.val % 4 = 1 → k0_off21 (grid0.coords t) = ![(bat t).val, 1024 * (((2 : Fin 4)).val % 3) + 1024, 0] := by decide +kernel
@[sl_canon] theorem canon_56 (t : Fin grid0.N) (hj : t.val % 4 = 1) (h2 : k0_cond2 (grid0.coords t) = 1#1) (h6 : k0_cond6 (grid0.coords t) = 1#1) :
    (hx.slice (Rect.unit (s := S2x4096x768) (k0_off21 (grid0.coords t)) S1x16x768.size (k0_off21_inb (grid0.coords t) h2 h6)) (fun _ => rfl)).squeeze S16x768 squeezes_S1x16x768_S16x768 = srcH (bat t) 2 :=
  congrArg (fun M : Memref sig .tc .hbm S1x16x768 .f32 => M.squeeze S16x768 squeezes_S1x16x768_S16x768) (Memref.slice_unit_congr _ (off_56 t hj) _ _ (fun _ => rfl) (fun _ => rfl))

/-! ### At tile 2 -/

set_option synthInstance.maxSize 4096 in
theorem off_57 : ∀ t : Fin grid0.N, t.val % 4 = 2 → k0_off22 (grid0.coords t) = ![((0 : Fin 2)).val, ((0 : Fin 4)).val] := by decide +kernel
@[sl_canon] theorem canon_57 (t : Fin grid0.N) (hj : t.val % 4 = 2) :
    (cc0_scratch1.slice (Rect.unit (s := S2x4) (k0_off22 (grid0.coords t)) S1x1.size (k0_off22_inb (grid0.coords t) ))).squeeze S_ squeezes_S1x1_S_ = cellA 0 0 :=
  congrArg (fun A : DmaSems sig S1x1 => A.squeeze S_ squeezes_S1x1_S_) (SemArray.slice_unit_congr _ (off_57 t hj) _ _)
set_option synthInstance.maxSize 4096 in
theorem off_58 : ∀ t : Fin grid0.N, t.val % 4 = 2 → k0_off23 (grid0.coords t) = ![((0 : Fin 2)).val, 16, 0] := by decide +kernel
@[sl_canon] theorem canon_58 (t : Fin grid0.N) (hj : t.val % 4 = 2) :
    (scr.slice (Rect.unit (s := S2x1072x768) (k0_off23 (grid0.coords t)) S1x1024x768.size (k0_off23_inb (grid0.coords t) )) (fun _ => rfl)).squeeze S1024x768 squeezes_S1x1024x768_S1024x768 = dstM 0 :=
  congrArg (fun M : Memref sig .tc .vmem S1x1024x768 .f32 => M.squeeze S1024x768 squeezes_S1x1024x768_S1024x768) (Memref.slice_unit_congr _ (off_58 t hj) _ _ (fun _ => rfl) (fun _ => rfl))
set_option synthInstance.maxSize 4096 in
theorem off_59 : ∀ t : Fin grid0.N, t.val % 4 = 2 → k0_off25 (grid0.coords t) = ![((0 : Fin 2)).val, ((3 : Fin 4)).val] := by decide +kernel
@[sl_canon] theorem canon_59 (t : Fin grid0.N) (hj : t.val % 4 = 2) :
    (cc0_scratch1.slice (Rect.unit (s := S2x4) (k0_off25 (grid0.coords t)) S1x1.size (k0_off25_inb (grid0.coords t) ))).squeeze S_ squeezes_S1x1_S_ = cellA 0 3 :=
  congrArg (fun A : DmaSems sig S1x1 => A.squeeze S_ squeezes_S1x1_S_) (SemArray.slice_unit_congr _ (off_59 t hj) _ _)
set_option synthInstance.maxSize 4096 in
theorem off_60 : ∀ t : Fin grid0.N, t.val % 4 = 2 → k0_off26 (grid0.coords t) = ![((0 : Fin 2)).val, 1056, 0] := by decide +kernel
@[sl_canon] theorem canon_60 (t : Fin grid0.N) (hj : t.val % 4 = 2) :
    (scr.slice (Rect.unit (s := S2x1072x768) (k0_off26 (grid0.coords t)) S1x16x768.size (k0_off26_inb (grid0.coords t) )) (fun _ => rfl)).squeeze S16x768 squeezes_S1x16x768_S16x768 = dstE 0 :=
  congrArg (fun M : Memref sig .tc .vmem S1x16x768 .f32 => M.squeeze S16x768 squeezes_S1x16x768_S16x768) (Memref.slice_unit_congr _ (off_60 t hj) _ _ (fun _ => rfl) (fun _ => rfl))
set_option synthInstance.maxSize 4096 in
theorem off_61 : ∀ t : Fin grid0.N, t.val % 4 = 2 → k0_off28 (grid0.coords t) = ![((0 : Fin 2)).val, ((1 : Fin 4)).val] := by decide +kernel
@[sl_canon] theorem canon_61 (t : Fin grid0.N) (hj : t.val % 4 = 2) :
    (cc0_scratch1.slice (Rect.unit (s := S2x4) (k0_off28 (grid0.coords t)) S1x1.size (k0_off28_inb (grid0.coords t) ))).squeeze S_ squeezes_S1x1_S_ = cellA 0 1 :=
  congrArg (fun A : DmaSems sig S1x1 => A.squeeze S_ squeezes_S1x1_S_) (SemArray.slice_unit_congr _ (off_61 t hj) _ _)
set_option synthInstance.maxSize 4096 in
theorem off_62 : ∀ t : Fin grid0.N, t.val % 4 = 2 → k0_off29 (grid0.coords t) = ![((0 : Fin 2)).val, 0, 0] := by decide +kernel
@[sl_canon] theorem canon_62 (t : Fin grid0.N) (hj : t.val % 4 = 2) :
    (scr.slice (Rect.unit (s := S2x1072x768) (k0_off29 (grid0.coords t)) S1x16x768.size (k0_off29_inb (grid0.coords t) )) (fun _ => rfl)).squeeze S16x768 squeezes_S1x16x768_S16x768 = dstL 0 :=
  congrArg (fun M : Memref sig .tc .vmem S1x16x768 .f32 => M.squeeze S16x768 squeezes_S1x16x768_S16x768) (Memref.slice_unit_congr _ (off_62 t hj) _ _ (fun _ => rfl) (fun _ => rfl))
set_option synthInstance.maxSize 4096 in
theorem off_63 : ∀ t : Fin grid0.N, t.val % 4 = 2 → k0_off31 (grid0.coords t) = ![((0 : Fin 2)).val, ((2 : Fin 4)).val] := by decide +kernel
@[sl_canon] theorem canon_63 (t : Fin grid0.N) (hj : t.val % 4 = 2) :
    (cc0_scratch1.slice (Rect.unit (s := S2x4) (k0_off31 (grid0.coords t)) S1x1.size (k0_off31_inb (grid0.coords t) ))).squeeze S_ squeezes_S1x1_S_ = cellA 0 2 :=
  congrArg (fun A : DmaSems sig S1x1 => A.squeeze S_ squeezes_S1x1_S_) (SemArray.slice_unit_congr _ (off_63 t hj) _ _)
set_option synthInstance.maxSize 4096 in
theorem off_64 : ∀ t : Fin grid0.N, t.val % 4 = 2 → k0_off32 (grid0.coords t) = ![((0 : Fin 2)).val, 1040, 0] := by decide +kernel
@[sl_canon] theorem canon_64 (t : Fin grid0.N) (hj : t.val % 4 = 2) :
    (scr.slice (Rect.unit (s := S2x1072x768) (k0_off32 (grid0.coords t)) S1x16x768.size (k0_off32_inb (grid0.coords t) )) (fun _ => rfl)).squeeze S16x768 squeezes_S1x16x768_S16x768 = dstH 0 :=
  congrArg (fun M : Memref sig .tc .vmem S1x16x768 .f32 => M.squeeze S16x768 squeezes_S1x16x768_S16x768) (Memref.slice_unit_congr _ (off_64 t hj) _ _ (fun _ => rfl) (fun _ => rfl))
set_option synthInstance.maxSize 4096 in
theorem off_65 : ∀ t : Fin grid0.N, t.val % 4 = 2 → k0_off33 (grid0.coords t) = ![((0 : Fin 2)).val, 0, 0] := by decide +kernel
@[sl_canon] theorem canon_65 (t : Fin grid0.N) (hj : t.val % 4 = 2) :
    (scr.slice (Rect.unit (s := S2x1072x768) (k0_off33 (grid0.coords t)) S1x1072x768.size (k0_off33_inb (grid0.coords t) )) (fun _ => rfl)).squeeze S1072x768 squeezes_S1x1072x768_S1072x768 = dstW 0 :=
  congrArg (fun M : Memref sig .tc .vmem S1x1072x768 .f32 => M.squeeze S1072x768 squeezes_S1x1072x768_S1072x768) (Memref.slice_unit_congr _ (off_65 t hj) _ _ (fun _ => rfl) (fun _ => rfl))
set_option synthInstance.maxSize 4096 in
theorem off_66 : ∀ t : Fin grid0.N, t.val % 4 = 2 → k0_off34 (grid0.coords t) = ![0, 0, 0] := by decide +kernel
instance (priority := high) closed_2 (t : Fin grid0.N) [h : Fact (t.val % 4 = 2)] : ClosedOff (k0_off34 (grid0.coords t)) := ⟨![0, 0, 0], off_66 t h.out⟩
set_option synthInstance.maxSize 4096 in
theorem off_67 : ∀ t : Fin grid0.N, t.val % 4 = 2 → k0_off4 (grid0.coords t) = ![((1 : Fin 2)).val, ((0 : Fin 4)).val] := by decide +kernel
@[sl_canon] theorem canon_67 (t : Fin grid0.N) (hj : t.val % 4 = 2) (h2 : k0_cond2 (grid0.coords t) = 1#1) :
    (cc0_scratch1.slice (Rect.unit (s := S2x4) (k0_off4 (grid0.coords t)) S1x1.size (k0_off4_inb (grid0.coords t) h2))).squeeze S_ squeezes_S1x1_S_ = cellA 1 0 :=
  congrArg (fun A : DmaSems sig S1x1 => A.squeeze S_ squeezes_S1x1_S_) (SemArray.slice_unit_congr _ (off_67 t hj) _ _)
set_option synthInstance.maxSize 4096 in
theorem off_68 : ∀ t : Fin grid0.N, t.val % 4 = 2 → k0_off5 (grid0.coords t) = ![((1 : Fin 2)).val, 16, 0] := by decide +kernel
@[sl_canon] theorem canon_68 (t : Fin grid0.N) (hj : t.val % 4 = 2) (h2 : k0_cond2 (grid0.coords t) = 1#1) :
    (scr.slice (Rect.unit (s := S2x1072x768) (k0_off5 (grid0.coords t)) S1x1024x768.size (k0_off5_inb (grid0.coords t) h2)) (fun _ => rfl)).squeeze S1024x768 squeezes_S1x1024x768_S1024x768 = dstM 1 :=
  congrArg (fun M : Memref sig .tc .vmem S1x1024x768 .f32 => M.squeeze S1024x768 squeezes_S1x1024x768_S1024x768) (Memref.slice_unit_congr _ (off_68 t hj) _ _ (fun _ => rfl) (fun _ => rfl))
set_option synthInstance.maxSize 4096 in
theorem off_69 : ∀ t : Fin grid0.N, t.val % 4 = 2 → k0_off6 (grid0.coords t) = ![(bat t).val, 1024 * ((3 : Fin 4)).val, 0] := by decide +kernel
@[sl_canon] theorem canon_69 (t : Fin grid0.N) (hj : t.val % 4 = 2) (h2 : k0_cond2 (grid0.coords t) = 1#1) :
    (hx.slice (Rect.unit (s := S2x4096x768) (k0_off6 (grid0.coords t)) S1x1024x768.size (k0_off6_inb (grid0.coords t) h2)) (fun _ => rfl)).squeeze S1024x768 squeezes_S1x1024x768_S1024x768 = srcM (bat t) 3 :=
  congrArg (fun M : Memref sig .tc .hbm S1x1024x768 .f32 => M.squeeze S1024x768 squeezes_S1x1024x768_S1024x768) (Memref.slice_unit_congr _ (off_69 t hj) _ _ (fun _ => rfl) (fun _ => rfl))
set_option synthInstance.maxSize 4096 in
theorem off_70 : ∀ t : Fin grid0.N, t.val % 4 = 2 → k0_off7 (grid0.coords t) = ![((1 : Fin 2)).val, ((3 : Fin 4)).val] := by decide +kernel
@[sl_canon] theorem canon_70 (t : Fin grid0.N) (hj : t.val % 4 = 2) (h2 : k0_cond2 (grid0.coords t) = 1#1) :
    (cc0_scratch1.slice (Rect.unit (s := S2x4) (k0_off7 (grid0.coords t)) S1x1.size (k0_off7_inb (grid0.coords t) h2))).squeeze S_ squeezes_S1x1_S_ = cellA 1 3 :=
  congrArg (fun A : DmaSems sig S1x1 => A.squeeze S_ squeezes_S1x1_S_) (SemArray.slice_unit_congr _ (off_70 t hj) _ _)
set_option synthInstance.maxSize 4096 in
theorem off_71 : ∀ t : Fin grid0.N, t.val % 4 = 2 → k0_off8 (grid0.coords t) = ![((1 : Fin 2)).val, 1056, 0] := by decide +kernel
@[sl_canon] theorem canon_71 (t : Fin grid0.N) (hj : t.val % 4 = 2) (h2 : k0_cond2 (grid0.coords t) = 1#1) :
    (scr.slice (Rect.unit (s := S2x1072x768) (k0_off8 (grid0.coords t)) S1x16x768.size (k0_off8_inb (grid0.coords t) h2)) (fun _ => rfl)).squeeze S16x768 squeezes_S1x16x768_S16x768 = dstE 1 :=
  congrArg (fun M : Memref sig .tc .vmem S1x16x768 .f32 => M.squeeze S16x768 squeezes_S1x16x768_S16x768) (Memref.slice_unit_congr _ (off_71 t hj) _ _ (fun _ => rfl) (fun _ => rfl))
set_option synthInstance.maxSize 4096 in
theorem off_72 : ∀ t : Fin grid0.N, t.val % 4 = 2 → k0_off9 (grid0.coords t) = ![(bat t).val, 0, 0] := by decide +kernel
@[sl_canon] theorem canon_72 (t : Fin grid0.N) (hj : t.val % 4 = 2) (h2 : k0_cond2 (grid0.coords t) = 1#1) :
    (hed.slice (Rect.unit (s := S2x16x768) (k0_off9 (grid0.coords t)) S1x16x768.size (k0_off9_inb (grid0.coords t) h2)) (fun _ => rfl)).squeeze S16x768 squeezes_S1x16x768_S16x768 = srcE (bat t) :=
  congrArg (fun M : Memref sig .tc .hbm S1x16x768 .f32 => M.squeeze S16x768 squeezes_S1x16x768_S16x768) (Memref.slice_unit_congr _ (off_72 t hj) _ _ (fun _ => rfl) (fun _ => rfl))
set_option synthInstance.maxSize 4096 in
theorem off_73 : ∀ t : Fin grid0.N, t.val % 4 = 2 → k0_off13 (grid0.coords t) = ![((1 : Fin 2)).val, ((1 : Fin 4)).val] := by decide +kernel
@[sl_canon] theorem canon_73 (t : Fin grid0.N) (hj : t.val % 4 = 2) (h2 : k0_cond2 (grid0.coords t) = 1#1) (h4 : k0_cond4 (grid0.coords t) = 1#1) :
    (cc0_scratch1.slice (Rect.unit (s := S2x4) (k0_off13 (grid0.coords t)) S1x1.size (k0_off13_inb (grid0.coords t) h2 h4))).squeeze S_ squeezes_S1x1_S_ = cellA 1 1 :=
  congrArg (fun A : DmaSems sig S1x1 => A.squeeze S_ squeezes_S1x1_S_) (SemArray.slice_unit_congr _ (off_73 t hj) _ _)
set_option synthInstance.maxSize 4096 in
theorem off_74 : ∀ t : Fin grid0.N, t.val % 4 = 2 → k0_off14 (grid0.coords t) = ![((1 : Fin 2)).val, 0, 0] := by decide +kernel
@[sl_canon] theorem canon_74 (t : Fin grid0.N) (hj : t.val % 4 = 2) (h2 : k0_cond2 (grid0.coords t) = 1#1) (h4 : k0_cond4 (grid0.coords t) = 1#1) :
    (scr.slice (Rect.unit (s := S2x1072x768) (k0_off14 (grid0.coords t)) S1x16x768.size (k0_off14_inb (grid0.coords t) h2 h4)) (fun _ => rfl)).squeeze S16x768 squeezes_S1x16x768_S16x768 = dstL 1 :=
  congrArg (fun M : Memref sig .tc .vmem S1x16x768 .f32 => M.squeeze S16x768 squeezes_S1x16x768_S16x768) (Memref.slice_unit_congr _ (off_74 t hj) _ _ (fun _ => rfl) (fun _ => rfl))
set_option synthInstance.maxSize 4096 in
theorem off_75 : ∀ t : Fin grid0.N, t.val % 4 = 2 → k0_off15 (grid0.coords t) = ![(bat t).val, 1024 * ((3 : Fin 4)).val - 16, 0] := by decide +kernel
@[sl_canon] theorem canon_75 (t : Fin grid0.N) (hj : t.val % 4 = 2) (h2 : k0_cond2 (grid0.coords t) = 1#1) (h4 : k0_cond4 (grid0.coords t) = 1#1) :
    (hx.slice (Rect.unit (s := S2x4096x768) (k0_off15 (grid0.coords t)) S1x16x768.size (k0_off15_inb (grid0.coords t) h2 h4)) (fun _ => rfl)).squeeze S16x768 squeezes_S1x16x768_S16x768 = srcL (bat t) 3 :=
  congrArg (fun M : Memref sig .tc .hbm S1x16x768 .f32 => M.squeeze S16x768 squeezes_S1x16x768_S16x768) (Memref.slice_unit_congr _ (off_75 t hj) _ _ (fun _ => rfl) (fun _ => rfl))
set_option synthInstance.maxSize 4096 in
theorem off_76 : ∀ t : Fin grid0.N, t.val % 4 = 2 → k0_off16 (grid0.coords t) = ![((1 : Fin 2)).val, ((2 : Fin 4)).val] := by decide +kernel
@[sl_canon] theorem canon_76 (t : Fin grid0.N) (hj : t.val % 4 = 2) (h2 : k0_cond2 (grid0.coords t) = 1#1) (h5 : k0_cond5 (grid0.coords t) = 1#1) :
    (cc0_scratch1.slice (Rect.unit (s := S2x4) (k0_off16 (grid0.coords t)) S1x1.size (k0_off16_inb (grid0.coords t) h2 h5))).squeeze S_ squeezes_S1x1_S_ = cellA 1 2 :=
  congrArg (fun A : DmaSems sig S1x1 => A.squeeze S_ squeezes_S1x1_S_) (SemArray.slice_unit_congr _ (off_76 t hj) _ _)
set_option synthInstance.maxSize 4096 in
theorem off_77 : ∀ t : Fin grid0.N, t.val % 4 = 2 → k0_off17 (grid0.coords t) = ![((1 : Fin 2)).val, 1040, 0] := by decide +kernel
@[sl_canon] theorem canon_77 (t : Fin grid0.N) (hj : t.val % 4 = 2) (h2 : k0_cond2 (grid0.coords t) = 1#1) (h5 : k0_cond5 (grid0.coords t) = 1#1) :
    (scr.slice (Rect.unit (s := S2x1072x768) (k0_off17 (grid0.coords t)) S1x16x768.size (k0_off17_inb (grid0.coords t) h2 h5)) (fun _ => rfl)).squeeze S16x768 squeezes_S1x16x768_S16x768 = dstH 1 :=
  congrArg (fun M : Memref sig .tc .vmem S1x16x768 .f32 => M.squeeze S16x768 squeezes_S1x16x768_S16x768) (Memref.slice_unit_congr _ (off_77 t hj) _ _ (fun _ => rfl) (fun _ => rfl))
set_option synthInstance.maxSize 4096 in
theorem off_78 : ∀ t : Fin grid0.N, t.val % 4 = 2 → k0_off18 (grid0.coords t) = ![(bat t).val, 0, 0] := by decide +kernel
@[sl_canon] theorem canon_78 (t : Fin grid0.N) (hj : t.val % 4 = 2) (h2 : k0_cond2 (grid0.coords t) = 1#1) (h5 : k0_cond5 (grid0.coords t) = 1#1) :
    (hhi.slice (Rect.unit (s := S2x16x768) (k0_off18 (grid0.coords t)) S1x16x768.size (k0_off18_inb (grid0.coords t) h2 h5)) (fun _ => rfl)).squeeze S16x768 squeezes_S1x16x768_S16x768 = srcPH (bat t) :=
  congrArg (fun M : Memref sig .tc .hbm S1x16x768 .f32 => M.squeeze S16x768 squeezes_S1x16x768_S16x768) (Memref.slice_unit_congr _ (off_78 t hj) _ _ (fun _ => rfl) (fun _ => rfl))

/-! ### At tile 3 -/

set_option synthInstance.maxSize 4096 in
theorem off_79 : ∀ t : Fin grid0.N, t.val % 4 = 3 → k0_off22 (grid0.coords t) = ![((1 : Fin 2)).val, ((0 : Fin 4)).val] := by decide +kernel
@[sl_canon] theorem canon_79 (t : Fin grid0.N) (hj : t.val % 4 = 3) :
    (cc0_scratch1.slice (Rect.unit (s := S2x4) (k0_off22 (grid0.coords t)) S1x1.size (k0_off22_inb (grid0.coords t) ))).squeeze S_ squeezes_S1x1_S_ = cellA 1 0 :=
  congrArg (fun A : DmaSems sig S1x1 => A.squeeze S_ squeezes_S1x1_S_) (SemArray.slice_unit_congr _ (off_79 t hj) _ _)
set_option synthInstance.maxSize 4096 in
theorem off_80 : ∀ t : Fin grid0.N, t.val % 4 = 3 → k0_off23 (grid0.coords t) = ![((1 : Fin 2)).val, 16, 0] := by decide +kernel
@[sl_canon] theorem canon_80 (t : Fin grid0.N) (hj : t.val % 4 = 3) :
    (scr.slice (Rect.unit (s := S2x1072x768) (k0_off23 (grid0.coords t)) S1x1024x768.size (k0_off23_inb (grid0.coords t) )) (fun _ => rfl)).squeeze S1024x768 squeezes_S1x1024x768_S1024x768 = dstM 1 :=
  congrArg (fun M : Memref sig .tc .vmem S1x1024x768 .f32 => M.squeeze S1024x768 squeezes_S1x1024x768_S1024x768) (Memref.slice_unit_congr _ (off_80 t hj) _ _ (fun _ => rfl) (fun _ => rfl))
set_option synthInstance.maxSize 4096 in
theorem off_81 : ∀ t : Fin grid0.N, t.val % 4 = 3 → k0_off25 (grid0.coords t) = ![((1 : Fin 2)).val, ((3 : Fin 4)).val] := by decide +kernel
@[sl_canon] theorem canon_81 (t : Fin grid0.N) (hj : t.val % 4 = 3) :
    (cc0_scratch1.slice (Rect.unit (s := S2x4) (k0_off25 (grid0.coords t)) S1x1.size (k0_off25_inb (grid0.coords t) ))).squeeze S_ squeezes_S1x1_S_ = cellA 1 3 :=
  congrArg (fun A : DmaSems sig S1x1 => A.squeeze S_ squeezes_S1x1_S_) (SemArray.slice_unit_congr _ (off_81 t hj) _ _)
set_option synthInstance.maxSize 4096 in
theorem off_82 : ∀ t : Fin grid0.N, t.val % 4 = 3 → k0_off26 (grid0.coords t) = ![((1 : Fin 2)).val, 1056, 0] := by decide +kernel
@[sl_canon] theorem canon_82 (t : Fin grid0.N) (hj : t.val % 4 = 3) :
    (scr.slice (Rect.unit (s := S2x1072x768) (k0_off26 (grid0.coords t)) S1x16x768.size (k0_off26_inb (grid0.coords t) )) (fun _ => rfl)).squeeze S16x768 squeezes_S1x16x768_S16x768 = dstE 1 :=
  congrArg (fun M : Memref sig .tc .vmem S1x16x768 .f32 => M.squeeze S16x768 squeezes_S1x16x768_S16x768) (Memref.slice_unit_congr _ (off_82 t hj) _ _ (fun _ => rfl) (fun _ => rfl))
set_option synthInstance.maxSize 4096 in
theorem off_83 : ∀ t : Fin grid0.N, t.val % 4 = 3 → k0_off28 (grid0.coords t) = ![((1 : Fin 2)).val, ((1 : Fin 4)).val] := by decide +kernel
@[sl_canon] theorem canon_83 (t : Fin grid0.N) (hj : t.val % 4 = 3) :
    (cc0_scratch1.slice (Rect.unit (s := S2x4) (k0_off28 (grid0.coords t)) S1x1.size (k0_off28_inb (grid0.coords t) ))).squeeze S_ squeezes_S1x1_S_ = cellA 1 1 :=
  congrArg (fun A : DmaSems sig S1x1 => A.squeeze S_ squeezes_S1x1_S_) (SemArray.slice_unit_congr _ (off_83 t hj) _ _)
set_option synthInstance.maxSize 4096 in
theorem off_84 : ∀ t : Fin grid0.N, t.val % 4 = 3 → k0_off29 (grid0.coords t) = ![((1 : Fin 2)).val, 0, 0] := by decide +kernel
@[sl_canon] theorem canon_84 (t : Fin grid0.N) (hj : t.val % 4 = 3) :
    (scr.slice (Rect.unit (s := S2x1072x768) (k0_off29 (grid0.coords t)) S1x16x768.size (k0_off29_inb (grid0.coords t) )) (fun _ => rfl)).squeeze S16x768 squeezes_S1x16x768_S16x768 = dstL 1 :=
  congrArg (fun M : Memref sig .tc .vmem S1x16x768 .f32 => M.squeeze S16x768 squeezes_S1x16x768_S16x768) (Memref.slice_unit_congr _ (off_84 t hj) _ _ (fun _ => rfl) (fun _ => rfl))
set_option synthInstance.maxSize 4096 in
theorem off_85 : ∀ t : Fin grid0.N, t.val % 4 = 3 → k0_off31 (grid0.coords t) = ![((1 : Fin 2)).val, ((2 : Fin 4)).val] := by decide +kernel
@[sl_canon] theorem canon_85 (t : Fin grid0.N) (hj : t.val % 4 = 3) :
    (cc0_scratch1.slice (Rect.unit (s := S2x4) (k0_off31 (grid0.coords t)) S1x1.size (k0_off31_inb (grid0.coords t) ))).squeeze S_ squeezes_S1x1_S_ = cellA 1 2 :=
  congrArg (fun A : DmaSems sig S1x1 => A.squeeze S_ squeezes_S1x1_S_) (SemArray.slice_unit_congr _ (off_85 t hj) _ _)
set_option synthInstance.maxSize 4096 in
theorem off_86 : ∀ t : Fin grid0.N, t.val % 4 = 3 → k0_off32 (grid0.coords t) = ![((1 : Fin 2)).val, 1040, 0] := by decide +kernel
@[sl_canon] theorem canon_86 (t : Fin grid0.N) (hj : t.val % 4 = 3) :
    (scr.slice (Rect.unit (s := S2x1072x768) (k0_off32 (grid0.coords t)) S1x16x768.size (k0_off32_inb (grid0.coords t) )) (fun _ => rfl)).squeeze S16x768 squeezes_S1x16x768_S16x768 = dstH 1 :=
  congrArg (fun M : Memref sig .tc .vmem S1x16x768 .f32 => M.squeeze S16x768 squeezes_S1x16x768_S16x768) (Memref.slice_unit_congr _ (off_86 t hj) _ _ (fun _ => rfl) (fun _ => rfl))
set_option synthInstance.maxSize 4096 in
theorem off_87 : ∀ t : Fin grid0.N, t.val % 4 = 3 → k0_off33 (grid0.coords t) = ![((1 : Fin 2)).val, 0, 0] := by decide +kernel
@[sl_canon] theorem canon_87 (t : Fin grid0.N) (hj : t.val % 4 = 3) :
    (scr.slice (Rect.unit (s := S2x1072x768) (k0_off33 (grid0.coords t)) S1x1072x768.size (k0_off33_inb (grid0.coords t) )) (fun _ => rfl)).squeeze S1072x768 squeezes_S1x1072x768_S1072x768 = dstW 1 :=
  congrArg (fun M : Memref sig .tc .vmem S1x1072x768 .f32 => M.squeeze S1072x768 squeezes_S1x1072x768_S1072x768) (Memref.slice_unit_congr _ (off_87 t hj) _ _ (fun _ => rfl) (fun _ => rfl))
set_option synthInstance.maxSize 4096 in
theorem off_88 : ∀ t : Fin grid0.N, t.val % 4 = 3 → k0_off34 (grid0.coords t) = ![1, 0, 0] := by decide +kernel
instance (priority := high) closed_3 (t : Fin grid0.N) [h : Fact (t.val % 4 = 3)] : ClosedOff (k0_off34 (grid0.coords t)) := ⟨![1, 0, 0], off_88 t h.out⟩

end Cert.KernelIdeal.Anchor

end
-- ==== Proof.KernelIdeal.Families.lean ====
module

public import proofs.«01_k».proof.Proof.KernelIdeal.Canon

/-! # A window slot between grid points: free, or with its four copies in flight -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (c : Dev nD) (X : HB F c hx) (PL : HB F c hlo) (PH : HB F c hhi) (E : HB F c hed)

/-- Slot `s` free: its four cells at zero, its four parts at anything, and its copies of the arrays it is filled from. -/
def free (s : Fin 2) : sProp 𝕄 :=
  iprop(cell0 c s 0 ∗ cell0 c s 1 ∗ cell0 c s 2 ∗ cell0 c s 3
    ∗ (∃ f, part (F := F) c (dstM s) fullShare f) ∗ (∃ f, part (F := F) c (dstE s) fullShare f)
    ∗ (∃ f, part (F := F) c (dstL s) fullShare f) ∗ (∃ f, part (F := F) c (dstH s) fullShare f)
    ∗ copyOf c hx (qM s) X ∗ copyOf c hed (qE s) E ∗ copyOf c hx (qL s) X ∗ copyOf c hx (qH s) X)
/-- Slot `s` with tile `n` of batch `b` in flight into it, the tile neither the first nor the last. -/
def inflX (s b : Fin 2) (n : Fin 4) : sProp 𝕄 :=
  iprop((∃ f, flightAt c s 0 (dstM s) (srcM b n) (qM s) X f) ∗ rest c hx (qM s) X (srcM b n).view.set
    ∗ (∃ f, flightAt c s 3 (dstE s) (srcE b) (qE s) E f) ∗ rest c hed (qE s) E (srcE b).view.set
    ∗ (∃ f, flightAt c s 1 (dstL s) (srcL b n) (qL s) X f) ∗ rest c hx (qL s) X (srcL b n).view.set
    ∗ (∃ f, flightAt c s 2 (dstH s) (srcH b n) (qH s) X f) ∗ rest c hx (qH s) X (srcH b n).view.set)
/-- Slot `s` with the last tile of batch `b` in flight into it: its upper rows come from the padding. -/
def inflP (s b : Fin 2) : sProp 𝕄 :=
  iprop((∃ f, flightAt c s 0 (dstM s) (srcM b 3) (qM s) X f) ∗ rest c hx (qM s) X (srcM b 3).view.set
    ∗ (∃ f, flightAt c s 3 (dstE s) (srcE b) (qE s) E f) ∗ rest c hed (qE s) E (srcE b).view.set
    ∗ (∃ f, flightAt c s 1 (dstL s) (srcL b 3) (qL s) X f) ∗ rest c hx (qL s) X (srcL b 3).view.set
    ∗ (∃ f, flightAt c s 2 (dstH s) (srcPH b) fullShare PH f) ∗ rest c hhi fullShare PH (srcPH b).view.set
    ∗ copyOf c hx (qH s) X)

/-- The window's contents in a slot holding tile `n` of batch `b`: rows `0 … 1055` are rows `1024 n - 16 …` of the
    batch, those outside it read from the paddings, and rows `1056 …` the edge rows. -/
def winF (b : Fin 2) (n : Fin 4) : HB F c scr := fun i : S2x1072x768.Idx =>
  if (i 1).val < 16 ∧ n.val = 0 then PL (ix3 b ⟨(i 1).val % 16, Nat.mod_lt _ (by decide)⟩ (i 2) : S2x16x768.Idx)
  else if 1056 ≤ (i 1).val then E (ix3 b ⟨((i 1).val - 1056) % 16, Nat.mod_lt _ (by decide)⟩ (i 2) : S2x16x768.Idx)
  else if 1040 ≤ (i 1).val ∧ n.val = 3 then PH (ix3 b ⟨((i 1).val - 1040) % 16, Nat.mod_lt _ (by decide)⟩ (i 2) : S2x16x768.Idx)
  else X (ix3 b ⟨(1024 * n.val + (i 1).val - 16) % 4096, Nat.mod_lt _ (by decide)⟩ (i 2) : S2x4096x768.Idx)

/-! ## Each part as it lands is that part of the window -/

section Landing
variable (s b : Fin 2) (n : Fin 4)

theorem of_cast_eq {α β : Type} (h : α = β) {x y : α} (e : _root_.cast h x = _root_.cast h y) : x = y := by subst h; exact e

/-- A part filled from a source holds `g` on it, once the source's elements are `g`'s at their places. -/
theorem landed_eq {N : ℕ} (D : Memref sig .tc .vmem ⟨2, ![N, 768]⟩ .f32) (M : Memref sig .tc .hbm ⟨2, ![N, 768]⟩ .f32)
    (f : HB F c D) (w : HB F c M) (g : HB F c D)
    (h : ∀ (r : Fin N) (k : Fin 768), M.view.read (Elt F) w (ix2 r k) = D.view.read (Elt F) g (ix2 r k)) :
    (part c D fullShare (D.view.writes (Elt F) f [⟨Rect.whole ⟨2, ![N, 768]⟩, ReadAs.same.apply (M.view.read (Elt F) w)⟩]) : sProp 𝕄)
      = part c D fullShare g := by
  refine pointsTo_congr fun i hi => ?_
  obtain ⟨y, -, rfl⟩ := Finset.mem_map.mp hi
  obtain ⟨r, k, rfl⟩ : ∃ r k, y = ix2 r k := ⟨y 0, y 1, by funext a; fin_cases a <;> rfl⟩
  have e := View.read_writes_cons_emb (Val := Elt F) D.view f (Rect.whole ⟨2, ![N, 768]⟩) (ReadAs.same.apply (M.view.read (Elt F) w)) [] (ix2 r k)
  rw [show (Rect.whole ⟨2, ![N, 768]⟩ : Rect ⟨2, ![N, 768]⟩).emb (ix2 r k) = ix2 r k from Rect.emb_whole_apply _ _] at e
  exact of_cast_eq _ (e.trans (h r k))

theorem winF_at (x : S2x1072x768.Idx) (o : ℕ) (r : ℕ) (k : Fin 768) (h : o + r < 1072) (hx : x = ix3 s ⟨o + r, h⟩ k) :
    (winF c X PL PH E b n : S2x1072x768.Idx → Elt F .f32) x =
      if o + r < 16 ∧ n.val = 0 then (PL (ix3 b ⟨(o + r) % 16, Nat.mod_lt _ (by decide)⟩ k : S2x16x768.Idx) : Elt F .f32)
      else if 1056 ≤ o + r then E (ix3 b ⟨(o + r - 1056) % 16, Nat.mod_lt _ (by decide)⟩ k : S2x16x768.Idx)
      else if 1040 ≤ o + r ∧ n.val = 3 then PH (ix3 b ⟨(o + r - 1040) % 16, Nat.mod_lt _ (by decide)⟩ k : S2x16x768.Idx)
      else X (ix3 b ⟨(1024 * n.val + (o + r) - 16) % 4096, Nat.mod_lt _ (by decide)⟩ k : S2x4096x768.Idx) := by
  subst hx; rfl

theorem landM (f : HB F c (dstM s)) :
    (part c (dstM s) fullShare ((dstM s).view.writes (Elt F) f [⟨Rect.whole S1024x768, ReadAs.same.apply ((srcM b n).view.read (Elt F) X)⟩]) : sProp 𝕄)
      = part c (dstM s) fullShare (winF c X PL PH E b n) :=
  landed_eq c (dstM s) (srcM b n) f X (winF c X PL PH E b n) fun r k => by
    refine (show _ = X ((srcM b n).view.emb (ix2 r k)) from rfl).trans ?_
    refine Eq.trans ?_ (show winF c X PL PH E b n ((dstM s).view.emb (ix2 r k)) = _ from rfl)
    rw [winF_at c X PL PH E s b n _ 16 r.val k (by omega) (emb_dstM s r k), if_neg (by omega), if_neg (by omega), if_neg (by omega), emb_srcM]
    exact congrArg X (congrArg (fun z => (ix3 b z k : S2x4096x768.Idx)) (Fin.ext (by show 1024 * n.val + r.val = (1024 * n.val + (16 + r.val) - 16) % 4096; omega)))
theorem landE (f : HB F c (dstE s)) :
    (part c (dstE s) fullShare ((dstE s).view.writes (Elt F) f [⟨Rect.whole S16x768, ReadAs.same.apply ((srcE b).view.read (Elt F) E)⟩]) : sProp 𝕄)
      = part c (dstE s) fullShare (winF c X PL PH E b n) :=
  landed_eq c (dstE s) (srcE b) f E (winF c X PL PH E b n) fun r k => by
    refine (show _ = E ((srcE b).view.emb (ix2 r k)) from rfl).trans ?_
    refine Eq.trans ?_ (show winF c X PL PH E b n ((dstE s).view.emb (ix2 r k)) = _ from rfl)
    rw [winF_at c X PL PH E s b n _ 1056 r.val k (by omega) (emb_dstE s r k), if_neg (by omega), if_pos (by omega), emb_srcE]
    exact congrArg E (congrArg (fun z => (ix3 b z k : S2x16x768.Idx)) (Fin.ext (by show 0 + r.val = (1056 + r.val - 1056) % 16; omega)))
theorem landL (hn : n.val ≠ 0) (f : HB F c (dstL s)) :
    (part c (dstL s) fullShare ((dstL s).view.writes (Elt F) f [⟨Rect.whole S16x768, ReadAs.same.apply ((srcL b n).view.read (Elt F) X)⟩]) : sProp 𝕄)
      = part c (dstL s) fullShare (winF c X PL PH E b n) :=
  landed_eq c (dstL s) (srcL b n) f X (winF c X PL PH E b n) fun r k => by
    refine (show _ = X ((srcL b n).view.emb (ix2 r k)) from rfl).trans ?_
    refine Eq.trans ?_ (show winF c X PL PH E b n ((dstL s).view.emb (ix2 r k)) = _ from rfl)
    rw [winF_at c X PL PH E s b n _ 0 r.val k (by omega) (emb_dstL s r k), if_neg (by omega), if_neg (by omega), if_neg (by omega), emb_srcL]
    exact congrArg X (congrArg (fun z => (ix3 b z k : S2x4096x768.Idx)) (Fin.ext (by show 1024 * n.val - 16 + r.val = (1024 * n.val + (0 + r.val) - 16) % 4096; omega)))
theorem landPL (hn : n.val = 0) (f : HB F c (dstL s)) :
    (part c (dstL s) fullShare ((dstL s).view.writes (Elt F) f [⟨Rect.whole S16x768, ReadAs.same.apply ((srcPL b).view.read (Elt F) PL)⟩]) : sProp 𝕄)
      = part c (dstL s) fullShare (winF c X PL PH E b n) :=
  landed_eq c (dstL s) (srcPL b) f PL (winF c X PL PH E b n) fun r k => by
    refine (show _ = PL ((srcPL b).view.emb (ix2 r k)) from rfl).trans ?_
    refine Eq.trans ?_ (show winF c X PL PH E b n ((dstL s).view.emb (ix2 r k)) = _ from rfl)
    rw [winF_at c X PL PH E s b n _ 0 r.val k (by omega) (emb_dstL s r k), if_pos (by omega), emb_srcPL]
    exact congrArg PL (congrArg (fun z => (ix3 b z k : S2x16x768.Idx)) (Fin.ext (by show 0 + r.val = (0 + r.val) % 16; omega)))
theorem landH (hn : n.val ≠ 3) (f : HB F c (dstH s)) :
    (part c (dstH s) fullShare ((dstH s).view.writes (Elt F) f [⟨Rect.whole S16x768, ReadAs.same.apply ((srcH b n).view.read (Elt F) X)⟩]) : sProp 𝕄)
      = part c (dstH s) fullShare (winF c X PL PH E b n) :=
  landed_eq c (dstH s) (srcH b n) f X (winF c X PL PH E b n) fun r k => by
    refine (show _ = X ((srcH b n).view.emb (ix2 r k)) from rfl).trans ?_
    refine Eq.trans ?_ (show winF c X PL PH E b n ((dstH s).view.emb (ix2 r k)) = _ from rfl)
    rw [winF_at c X PL PH E s b n _ 1040 r.val k (by omega) (emb_dstH s r k), if_neg (by omega), if_neg (by omega), if_neg (by omega), emb_srcH]
    exact congrArg X (congrArg (fun z => (ix3 b z k : S2x4096x768.Idx)) (Fin.ext (by show 1024 * (n.val % 3) + 1024 + r.val = (1024 * n.val + (1040 + r.val) - 16) % 4096; omega)))
theorem landPH (hn : n.val = 3) (f : HB F c (dstH s)) :
    (part c (dstH s) fullShare ((dstH s).view.writes (Elt F) f [⟨Rect.whole S16x768, ReadAs.same.apply ((srcPH b).view.read (Elt F) PH)⟩]) : sProp 𝕄)
      = part c (dstH s) fullShare (winF c X PL PH E b n) :=
  landed_eq c (dstH s) (srcPH b) f PH (winF c X PL PH E b n) fun r k => by
    refine (show _ = PH ((srcPH b).view.emb (ix2 r k)) from rfl).trans ?_
    refine Eq.trans ?_ (show winF c X PL PH E b n ((dstH s).view.emb (ix2 r k)) = _ from rfl)
    rw [winF_at c X PL PH E s b n _ 1040 r.val k (by omega) (emb_dstH s r k), if_neg (by omega), if_neg (by omega), if_pos (by omega), emb_srcPH]
    exact congrArg PH (congrArg (fun z => (ix3 b z k : S2x16x768.Idx)) (Fin.ext (by show 0 + r.val = (1040 + r.val - 1040) % 16; omega)))

/-- The four parts of a batch's first tile, landed, are the slot at its window. -/
theorem slot_first (hn : n.val = 0) (fM : HB F c (dstM s)) (fE : HB F c (dstE s)) (fL : HB F c (dstL s)) (fH : HB F c (dstH s)) :
    (iprop(part c (dstM s) fullShare ((dstM s).view.writes (Elt F) fM [⟨Rect.whole S1024x768, ReadAs.same.apply ((srcM b n).view.read (Elt F) X)⟩])
      ∗ part c (dstE s) fullShare ((dstE s).view.writes (Elt F) fE [⟨Rect.whole S16x768, ReadAs.same.apply ((srcE b).view.read (Elt F) E)⟩])
      ∗ part c (dstL s) fullShare ((dstL s).view.writes (Elt F) fL [⟨Rect.whole S16x768, ReadAs.same.apply ((srcPL b).view.read (Elt F) PL)⟩])
      ∗ part c (dstH s) fullShare ((dstH s).view.writes (Elt F) fH [⟨Rect.whole S16x768, ReadAs.same.apply ((srcH b n).view.read (Elt F) X)⟩])) : sProp 𝕄)
      ⊢ part c (dstW s) fullShare (winF c X PL PH E b n) := by
  rw [landM c X PL PH E s b n fM, landE c X PL PH E s b n fE, landPL c X PL PH E s b n hn fL, landH c X PL PH E s b n (by omega) fH]
  exact (join_slot c s _).1
/-- The four parts of an inner tile. -/
theorem slot_inner (h0 : n.val ≠ 0) (h3 : n.val ≠ 3) (fM : HB F c (dstM s)) (fE : HB F c (dstE s)) (fL : HB F c (dstL s)) (fH : HB F c (dstH s)) :
    (iprop(part c (dstM s) fullShare ((dstM s).view.writes (Elt F) fM [⟨Rect.whole S1024x768, ReadAs.same.apply ((srcM b n).view.read (Elt F) X)⟩])
      ∗ part c (dstE s) fullShare ((dstE s).view.writes (Elt F) fE [⟨Rect.whole S16x768, ReadAs.same.apply ((srcE b).view.read (Elt F) E)⟩])
      ∗ part c (dstL s) fullShare ((dstL s).view.writes (Elt F) fL [⟨Rect.whole S16x768, ReadAs.same.apply ((srcL b n).view.read (Elt F) X)⟩])
      ∗ part c (dstH s) fullShare ((dstH s).view.writes (Elt F) fH [⟨Rect.whole S16x768, ReadAs.same.apply ((srcH b n).view.read (Elt F) X)⟩])) : sProp 𝕄)
      ⊢ part c (dstW s) fullShare (winF c X PL PH E b n) := by
  rw [landM c X PL PH E s b n fM, landE c X PL PH E s b n fE, landL c X PL PH E s b n h0 fL, landH c X PL PH E s b n h3 fH]
  exact (join_slot c s _).1
/-- The four parts of a batch's last tile. -/
theorem slot_last (hn : n.val = 3) (fM : HB F c (dstM s)) (fE : HB F c (dstE s)) (fL : HB F c (dstL s)) (fH : HB F c (dstH s)) :
    (iprop(part c (dstM s) fullShare ((dstM s).view.writes (Elt F) fM [⟨Rect.whole S1024x768, ReadAs.same.apply ((srcM b n).view.read (Elt F) X)⟩])
      ∗ part c (dstE s) fullShare ((dstE s).view.writes (Elt F) fE [⟨Rect.whole S16x768, ReadAs.same.apply ((srcE b).view.read (Elt F) E)⟩])
      ∗ part c (dstL s) fullShare ((dstL s).view.writes (Elt F) fL [⟨Rect.whole S16x768, ReadAs.same.apply ((srcL b n).view.read (Elt F) X)⟩])
      ∗ part c (dstH s) fullShare ((dstH s).view.writes (Elt F) fH [⟨Rect.whole S16x768, ReadAs.same.apply ((srcPH b).view.read (Elt F) PH)⟩])) : sProp 𝕄)
      ⊢ part c (dstW s) fullShare (winF c X PL PH E b n) := by
  rw [landM c X PL PH E s b n fM, landE c X PL PH E s b n fE, landL c X PL PH E s b n (by omega) fL, landPH c X PL PH E s b n hn fH]
  exact (join_slot c s _).1

end Landing

/-- The rows of a group of rows. -/
theorem mem_rows {s : Fin 2} {o n : Nat} {i : S2x1072x768.Idx} (h : i ∈ rowsOf s o n) : o ≤ (i 1).val ∧ (i 1).val < o + n :=
  (Finset.mem_filter.mp h).2.2

/-- A slot's four parts, each at something, are the slot at something. -/
theorem gather_slot (s : Fin 2) (f : HB F c (dstM s)) (g : HB F c (dstE s)) (h : HB F c (dstL s)) (k : HB F c (dstH s)) :
    (iprop(part c (dstM s) fullShare f ∗ part c (dstE s) fullShare g ∗ part c (dstL s) fullShare h ∗ part c (dstH s) fullShare k) : sProp 𝕄)
      ⊢ iprop(∃ d, part (F := F) c (dstW s) fullShare d) := by
  let d : HB F c scr := fun i : S2x1072x768.Idx => if (i 1).val < 16 then (h i : Elt F .f32) else if (i 1).val < 1040 then f i else if (i 1).val < 1056 then k i else g i
  have hd (i : S2x1072x768.Idx) : d i = if (i 1).val < 16 then (h i : Elt F .f32) else if (i 1).val < 1040 then f i else if (i 1).val < 1056 then k i else g i := rfl
  have eM : (part c (dstM s) fullShare f : sProp 𝕄) = part c (dstM s) fullShare d := pointsTo_congr fun i hi => by
    have h' := mem_rows ((Finset.ext_iff.mp (set_dstM s) i).mp hi)
    exact ((hd i).trans ((if_neg (by omega)).trans (if_pos (by omega)))).symm
  have eE : (part c (dstE s) fullShare g : sProp 𝕄) = part c (dstE s) fullShare d := pointsTo_congr fun i hi => by
    have h' := mem_rows ((Finset.ext_iff.mp (set_dstE s) i).mp hi)
    exact ((hd i).trans ((if_neg (by omega)).trans ((if_neg (by omega)).trans (if_neg (by omega))))).symm
  have eL : (part c (dstL s) fullShare h : sProp 𝕄) = part c (dstL s) fullShare d := pointsTo_congr fun i hi => by
    have h' := mem_rows ((Finset.ext_iff.mp (set_dstL s) i).mp hi)
    exact ((hd i).trans (if_pos (by omega))).symm
  have eH : (part c (dstH s) fullShare k : sProp 𝕄) = part c (dstH s) fullShare d := pointsTo_congr fun i hi => by
    have h' := mem_rows ((Finset.ext_iff.mp (set_dstH s) i).mp hi)
    exact ((hd i).trans ((if_neg (by omega)).trans ((if_neg (by omega)).trans (if_pos (by omega))))).symm
  rw [eM, eE, eL, eH]
  iintro H
  iexists d
  iapply (join_slot c s d).1
  iexact H

end Cert.KernelIdeal.Anchor

end
-- ==== Proof.KernelIdeal.Run0.lean ====
module

public import proofs.«01_k».proof.Proof.KernelIdeal.Families

/-! # The body run at tile 0 -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1600000 in
/-- The body at a point of tile 0, from its windows at `x0 … x5` and the ring as the tile finds it, leaves the windows as
    they were, the ring as the next tile finds it, and one block written over the output's staging memref. -/
noncomputable def run0 (c : Dev nD) (t : Fin cfg0.N) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x3 .f32) (harg11 : arg11.IsWhole) (arg12 : Memref sig .tc .vmem S1x1024x768 .f32) (harg12 : arg12.IsWhole) (hj : t.val % 4 = 0)
    (x0 : Vec F S768x768 .f32) (x1 : Vec F S768x768 .f32) (x2 : Vec F S768x768 .f32) (x3 : Vec F S768x768 .f32) (x4 : Vec F S1x768 .f32) (x5 : Vec F S1x3 .f32) (X : HB F c hx) (PL : HB F c hlo) (PH : HB F c hhi) (E : HB F c hed) :
    { L : List (View.Piece (Elt F) S1x1024x768 .f32) //
      ∀ (W : Waits sig Unit) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ free c X E 0 ∗ free c X E 1 ∗ copyOf c hlo fullShare PL ∗ owes (c : Thread nD τ) 0 W
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L)
                ∗ inflX c X E 1 (bat t) 1 ∗ free c X E 0 ∗ copyOf c hlo fullShare PL ∗ (∃ W', owes (c : Thread nD τ) 0 W')) -∗ K ⟨⟩))
          ⊢ wp frame (wpE (defs₀ (F := F)) Variants.none c none) Set.univ (cc0__attn_kernel (grid0.coords t) hx (Memref.isWhole_whole _) hlo (Memref.isWhole_whole _) hhi (Memref.isWhole_whole _) hed (Memref.isWhole_whole _) arg6 harg6 arg7 harg7 arg8 harg8 arg9 harg9 arg10 harg10 arg11 harg11 arg12 harg12 scr (Memref.isWhole_whole _) cc0_scratch1) K } := by
  refine ⟨?_, fun W K => ?run⟩
  case run =>
    haveI : Fact (t.val % 4 = 0) := ⟨hj⟩
    have h1 : k0_cond1 (grid0.coords t) = 1#1 := by rw [cond1_iff]; omega
    have h2 : k0_cond2 (grid0.coords t) = 1#1 := by rw [cond2_iff]; omega
    have h3 : ¬ k0_cond3 (grid0.coords t) = 1#1 := cond3_iff t
    have h4 : k0_cond4 (grid0.coords t) = 1#1 := cond4_iff t
    have h5 : ¬ k0_cond5 (grid0.coords t) = 1#1 := by rw [cond5_iff t (by omega)]; omega
    have h6 : k0_cond6 (grid0.coords t) = 1#1 := by rw [cond6_iff t (by omega)]; omega
    simp only [cc0__attn_kernel_eq_skeleton]; unfold cc0__attn_kernel_skel
    unfold owns free inflX
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨Cc0, Cc1, Cc2, Cc3, ⟨%CfM, CM⟩, ⟨%CfE, CE⟩, ⟨%CfL, CL⟩, ⟨%CfH, CH⟩, CsM, CsE, CsL, CsH⟩, ⟨Nc0, Nc1, Nc2, Nc3, ⟨%NfM, NM⟩, ⟨%NfE, NE⟩, ⟨%NfL, NL⟩, ⟨%NfH, NH⟩, NsM, NsE, NsL, NsH⟩, HPL, HW, Hk⟩
    ihave CsM' := (lendM c (bat t) 0 (qM 0) X).1 $$ CsM
    icases CsM' with ⟨CsM, CrM⟩
    ihave CsE' := (lendE c (bat t) (qE 0) E).1 $$ CsE
    icases CsE' with ⟨CsE, CrE⟩
    ihave HPL' := (lendPL c (bat t) fullShare PL).1 $$ HPL
    icases HPL' with ⟨HPL, CrL⟩
    ihave CsH' := (lendH c (bat t) 0 (qH 0) X).1 $$ CsH
    icases CsH' with ⟨CsH, CrH⟩
    ihave NsM' := (lendM c (bat t) 1 (qM 1) X).1 $$ NsM
    icases NsM' with ⟨NsM, NrM⟩
    ihave NsE' := (lendE c (bat t) (qE 1) E).1 $$ NsE
    icases NsE' with ⟨NsE, NrE⟩
    ihave NsL' := (lendL c (bat t) 1 (qL 1) X).1 $$ NsL
    icases NsL' with ⟨NsL, NrL⟩
    ihave NsH' := (lendH c (bat t) 1 (qH 1) X).1 $$ NsH
    icases NsH' with ⟨NsH, NrH⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hj | sl_exact h1 | sl_exact h2 | sl_exact h3 | sl_exact h4 | sl_exact h5 | sl_exact h6)
    ihave WW := (slot_first c X PL PH E 0 (bat t) 0 (by decide) CfM CfE CfL CfH) $$ [CM CE CL CH]
    · isplitl [CM]; · iexact CM
      isplitl [CE]; · iexact CE
      isplitl [CL]; · iexact CL
      iexact CH
    sl_exec (disch := first | sl_exact hj | sl_exact h1 | sl_exact h2 | sl_exact h3 | sl_exact h4 | sl_exact h5 | sl_exact h6)
    ihave WW := (join_slot c 0 (winF c X PL PH E (bat t) 0)).2 $$ WW
    icases WW with ⟨WM, WE, WL, WH⟩
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [Nc0 NrM Nc3 NrE Nc1 NrL Nc2 NrH]
    · isplitl [Nc0]; · iexists _; iexact Nc0
      isplitl [NrM]; · iexact NrM
      isplitl [Nc3]; · iexists _; iexact Nc3
      isplitl [NrE]; · iexact NrE
      isplitl [Nc1]; · iexists _; iexact Nc1
      isplitl [NrL]; · iexact NrL
      isplitl [Nc2]; · iexists _; iexact Nc2
      iexact NrH
    isplitl [Cc0 Cc1 Cc2 Cc3 WM WE WL WH CsM CrM CsE CrE CsL CsH CrH]
    · isplitl [Cc0]; · iexact Cc0
      isplitl [Cc1]; · iexact Cc1
      isplitl [Cc2]; · iexact Cc2
      isplitl [Cc3]; · iexact Cc3
      isplitl [WM]; · iexists _; iexact WM
      isplitl [WE]; · iexists _; iexact WE
      isplitl [WL]; · iexists _; iexact WL
      isplitl [WH]; · iexists _; iexact WH
      isplitl [CsM CrM]
      · iapply (lendM c (bat t) 0 (qM 0) X).2; isplitl [CsM]; · iexact CsM
        iexact CrM
      isplitl [CsE CrE]
      · iapply (lendE c (bat t) (qE 0) E).2; isplitl [CsE]; · iexact CsE
        iexact CrE
      isplitl [CsL]; · iexact CsL
      iapply (lendH c (bat t) 0 (qH 0) X).2; isplitl [CsH]; · iexact CsH
      iexact CrH
    isplitl [HPL CrL]
    · iapply (lendPL c (bat t) fullShare PL).2; isplitl [HPL]; · iexact HPL
      iexact CrL
    iexists _; iexact HW

end Cert.KernelIdeal.Anchor

end
-- ==== Proof.KernelIdeal.Run1.lean ====
module

public import proofs.«01_k».proof.Proof.KernelIdeal.Run0

/-! # The body run at tile 1 -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1600000 in
/-- The body at a point of tile 1, from its windows at `x0 … x5` and the ring as the tile finds it, leaves the windows as
    they were, the ring as the next tile finds it, and one block written over the output's staging memref. -/
noncomputable def run1 (c : Dev nD) (t : Fin cfg0.N) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x3 .f32) (harg11 : arg11.IsWhole) (arg12 : Memref sig .tc .vmem S1x1024x768 .f32) (harg12 : arg12.IsWhole) (hj : t.val % 4 = 1)
    (x0 : Vec F S768x768 .f32) (x1 : Vec F S768x768 .f32) (x2 : Vec F S768x768 .f32) (x3 : Vec F S768x768 .f32) (x4 : Vec F S1x768 .f32) (x5 : Vec F S1x3 .f32) (X : HB F c hx) (PL : HB F c hlo) (PH : HB F c hhi) (E : HB F c hed) :
    { L : List (View.Piece (Elt F) S1x1024x768 .f32) //
      ∀ (W : Waits sig Unit) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ inflX c X E 1 (bat t) 1 ∗ free c X E 0 ∗ owes (c : Thread nD τ) 0 W
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L)
                ∗ inflX c X E 0 (bat t) 2 ∗ free c X E 1 ∗ (∃ W', owes (c : Thread nD τ) 0 W')) -∗ K ⟨⟩))
          ⊢ wp frame (wpE (defs₀ (F := F)) Variants.none c none) Set.univ (cc0__attn_kernel (grid0.coords t) hx (Memref.isWhole_whole _) hlo (Memref.isWhole_whole _) hhi (Memref.isWhole_whole _) hed (Memref.isWhole_whole _) arg6 harg6 arg7 harg7 arg8 harg8 arg9 harg9 arg10 harg10 arg11 harg11 arg12 harg12 scr (Memref.isWhole_whole _) cc0_scratch1) K } := by
  refine ⟨?_, fun W K => ?run⟩
  case run =>
    haveI : Fact (t.val % 4 = 1) := ⟨hj⟩
    have h1 : ¬ k0_cond1 (grid0.coords t) = 1#1 := by rw [cond1_iff]; omega
    have h2 : k0_cond2 (grid0.coords t) = 1#1 := by rw [cond2_iff]; omega
    have h3 : ¬ k0_cond3 (grid0.coords t) = 1#1 := cond3_iff t
    have h4 : k0_cond4 (grid0.coords t) = 1#1 := cond4_iff t
    have h5 : ¬ k0_cond5 (grid0.coords t) = 1#1 := by rw [cond5_iff t (by omega)]; omega
    have h6 : k0_cond6 (grid0.coords t) = 1#1 := by rw [cond6_iff t (by omega)]; omega
    simp only [cc0__attn_kernel_eq_skeleton]; unfold cc0__attn_kernel_skel
    unfold owns free inflX
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%CfM, CM⟩, CrM, ⟨%CfE, CE⟩, CrE, ⟨%CfL, CL⟩, CrL, ⟨%CfH, CH⟩, CrH⟩, ⟨Nc0, Nc1, Nc2, Nc3, ⟨%NfM, NM⟩, ⟨%NfE, NE⟩, ⟨%NfL, NL⟩, ⟨%NfH, NH⟩, NsM, NsE, NsL, NsH⟩, HW, Hk⟩
    ihave NsM' := (lendM c (bat t) 2 (qM 0) X).1 $$ NsM
    icases NsM' with ⟨NsM, NrM⟩
    ihave NsE' := (lendE c (bat t) (qE 0) E).1 $$ NsE
    icases NsE' with ⟨NsE, NrE⟩
    ihave NsL' := (lendL c (bat t) 2 (qL 0) X).1 $$ NsL
    icases NsL' with ⟨NsL, NrL⟩
    ihave NsH' := (lendH c (bat t) 2 (qH 0) X).1 $$ NsH
    icases NsH' with ⟨NsH, NrH⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hj | sl_exact h1 | sl_exact h2 | sl_exact h3 | sl_exact h4 | sl_exact h5 | sl_exact h6)
    ihave WW := (slot_inner c X PL PH E 1 (bat t) 1 (by decide) (by decide) CfM CfE CfL CfH) $$ [CM_dst CE_dst CL_dst CH_dst]
    · isplitl [CM_dst]; · iexact CM_dst
      isplitl [CE_dst]; · iexact CE_dst
      isplitl [CL_dst]; · iexact CL_dst
      iexact CH_dst
    sl_exec (disch := first | sl_exact hj | sl_exact h1 | sl_exact h2 | sl_exact h3 | sl_exact h4 | sl_exact h5 | sl_exact h6)
    ihave WW := (join_slot c 1 (winF c X PL PH E (bat t) 1)).2 $$ WW
    icases WW with ⟨WM, WE, WL, WH⟩
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [Nc0 NrM Nc3 NrE Nc1 NrL Nc2 NrH]
    · isplitl [Nc0]; · iexists _; iexact Nc0
      isplitl [NrM]; · iexact NrM
      isplitl [Nc3]; · iexists _; iexact Nc3
      isplitl [NrE]; · iexact NrE
      isplitl [Nc1]; · iexists _; iexact Nc1
      isplitl [NrL]; · iexact NrL
      isplitl [Nc2]; · iexists _; iexact Nc2
      iexact NrH
    isplitl [CM CL CH CE WM WE WL WH CM_src CrM CE_src CrE CL_src CrL CH_src CrH]
    · isplitl [CM]; · iexact CM
      isplitl [CL]; · iexact CL
      isplitl [CH]; · iexact CH
      isplitl [CE]; · iexact CE
      isplitl [WM]; · iexists _; iexact WM
      isplitl [WE]; · iexists _; iexact WE
      isplitl [WL]; · iexists _; iexact WL
      isplitl [WH]; · iexists _; iexact WH
      isplitl [CM_src CrM]
      · iapply (lendM c (bat t) 1 (qM 1) X).2; isplitl [CM_src]; · iexact CM_src
        iexact CrM
      isplitl [CE_src CrE]
      · iapply (lendE c (bat t) (qE 1) E).2; isplitl [CE_src]; · iexact CE_src
        iexact CrE
      isplitl [CL_src CrL]
      · iapply (lendL c (bat t) 1 (qL 1) X).2; isplitl [CL_src]; · iexact CL_src
        iexact CrL
      iapply (lendH c (bat t) 1 (qH 1) X).2; isplitl [CH_src]; · iexact CH_src
      iexact CrH
    iexists _; iexact HW

end Cert.KernelIdeal.Anchor

end
-- ==== Proof.KernelIdeal.Run2.lean ====
module

public import proofs.«01_k».proof.Proof.KernelIdeal.Run1

/-! # The body run at tile 2 -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1600000 in
/-- The body at a point of tile 2, from its windows at `x0 … x5` and the ring as the tile finds it, leaves the windows as
    they were, the ring as the next tile finds it, and one block written over the output's staging memref. -/
noncomputable def run2 (c : Dev nD) (t : Fin cfg0.N) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x3 .f32) (harg11 : arg11.IsWhole) (arg12 : Memref sig .tc .vmem S1x1024x768 .f32) (harg12 : arg12.IsWhole) (hj : t.val % 4 = 2)
    (x0 : Vec F S768x768 .f32) (x1 : Vec F S768x768 .f32) (x2 : Vec F S768x768 .f32) (x3 : Vec F S768x768 .f32) (x4 : Vec F S1x768 .f32) (x5 : Vec F S1x3 .f32) (X : HB F c hx) (PL : HB F c hlo) (PH : HB F c hhi) (E : HB F c hed) :
    { L : List (View.Piece (Elt F) S1x1024x768 .f32) //
      ∀ (W : Waits sig Unit) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ inflX c X E 0 (bat t) 2 ∗ free c X E 1 ∗ copyOf c hhi fullShare PH ∗ owes (c : Thread nD τ) 0 W
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L)
                ∗ inflP c X PH E 1 (bat t) ∗ free c X E 0 ∗ (∃ W', owes (c : Thread nD τ) 0 W')) -∗ K ⟨⟩))
          ⊢ wp frame (wpE (defs₀ (F := F)) Variants.none c none) Set.univ (cc0__attn_kernel (grid0.coords t) hx (Memref.isWhole_whole _) hlo (Memref.isWhole_whole _) hhi (Memref.isWhole_whole _) hed (Memref.isWhole_whole _) arg6 harg6 arg7 harg7 arg8 harg8 arg9 harg9 arg10 harg10 arg11 harg11 arg12 harg12 scr (Memref.isWhole_whole _) cc0_scratch1) K } := by
  refine ⟨?_, fun W K => ?run⟩
  case run =>
    haveI : Fact (t.val % 4 = 2) := ⟨hj⟩
    have h1 : ¬ k0_cond1 (grid0.coords t) = 1#1 := by rw [cond1_iff]; omega
    have h2 : k0_cond2 (grid0.coords t) = 1#1 := by rw [cond2_iff]; omega
    have h3 : ¬ k0_cond3 (grid0.coords t) = 1#1 := cond3_iff t
    have h4 : k0_cond4 (grid0.coords t) = 1#1 := cond4_iff t
    have h5 : k0_cond5 (grid0.coords t) = 1#1 := by rw [cond5_iff t (by omega)]; omega
    have h6 : ¬ k0_cond6 (grid0.coords t) = 1#1 := by rw [cond6_iff t (by omega)]; omega
    simp only [cc0__attn_kernel_eq_skeleton]; unfold cc0__attn_kernel_skel
    unfold owns free inflX inflP
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%CfM, CM⟩, CrM, ⟨%CfE, CE⟩, CrE, ⟨%CfL, CL⟩, CrL, ⟨%CfH, CH⟩, CrH⟩, ⟨Nc0, Nc1, Nc2, Nc3, ⟨%NfM, NM⟩, ⟨%NfE, NE⟩, ⟨%NfL, NL⟩, ⟨%NfH, NH⟩, NsM, NsE, NsL, NsH⟩, HPH, HW, Hk⟩
    ihave NsM' := (lendM c (bat t) 3 (qM 1) X).1 $$ NsM
    icases NsM' with ⟨NsM, NrM⟩
    ihave NsE' := (lendE c (bat t) (qE 1) E).1 $$ NsE
    icases NsE' with ⟨NsE, NrE⟩
    ihave NsL' := (lendL c (bat t) 3 (qL 1) X).1 $$ NsL
    icases NsL' with ⟨NsL, NrL⟩
    ihave HPH' := (lendPH c (bat t) fullShare PH).1 $$ HPH
    icases HPH' with ⟨HPH, NrH⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hj | sl_exact h1 | sl_exact h2 | sl_exact h3 | sl_exact h4 | sl_exact h5 | sl_exact h6)
    ihave WW := (slot_inner c X PL PH E 0 (bat t) 2 (by decide) (by decide) CfM CfE CfL CfH) $$ [CM_dst CE_dst CL_dst CH_dst]
    · isplitl [CM_dst]; · iexact CM_dst
      isplitl [CE_dst]; · iexact CE_dst
      isplitl [CL_dst]; · iexact CL_dst
      iexact CH_dst
    sl_exec (disch := first | sl_exact hj | sl_exact h1 | sl_exact h2 | sl_exact h3 | sl_exact h4 | sl_exact h5 | sl_exact h6)
    ihave WW := (join_slot c 0 (winF c X PL PH E (bat t) 2)).2 $$ WW
    icases WW with ⟨WM, WE, WL, WH⟩
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [Nc0 NrM Nc3 NrE Nc1 NrL Nc2 NrH NsH]
    · isplitl [Nc0]; · iexists _; iexact Nc0
      isplitl [NrM]; · iexact NrM
      isplitl [Nc3]; · iexists _; iexact Nc3
      isplitl [NrE]; · iexact NrE
      isplitl [Nc1]; · iexists _; iexact Nc1
      isplitl [NrL]; · iexact NrL
      isplitl [Nc2]; · iexists _; iexact Nc2
      isplitl [NrH]; · iexact NrH
      iexact NsH
    isplitl [CM CL CH CE WM WE WL WH CM_src CrM CE_src CrE CL_src CrL CH_src CrH]
    · isplitl [CM]; · iexact CM
      isplitl [CL]; · iexact CL
      isplitl [CH]; · iexact CH
      isplitl [CE]; · iexact CE
      isplitl [WM]; · iexists _; iexact WM
      isplitl [WE]; · iexists _; iexact WE
      isplitl [WL]; · iexists _; iexact WL
      isplitl [WH]; · iexists _; iexact WH
      isplitl [CM_src CrM]
      · iapply (lendM c (bat t) 2 (qM 0) X).2; isplitl [CM_src]; · iexact CM_src
        iexact CrM
      isplitl [CE_src CrE]
      · iapply (lendE c (bat t) (qE 0) E).2; isplitl [CE_src]; · iexact CE_src
        iexact CrE
      isplitl [CL_src CrL]
      · iapply (lendL c (bat t) 2 (qL 0) X).2; isplitl [CL_src]; · iexact CL_src
        iexact CrL
      iapply (lendH c (bat t) 2 (qH 0) X).2; isplitl [CH_src]; · iexact CH_src
      iexact CrH
    iexists _; iexact HW

end Cert.KernelIdeal.Anchor

end
-- ==== Proof.KernelIdeal.Run3.lean ====
module

public import proofs.«01_k».proof.Proof.KernelIdeal.Run2

/-! # The body run at tile 3 -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

set_option maxHeartbeats 1600000 in
/-- The body at a point of tile 3, from its windows at `x0 … x5` and the ring as the tile finds it, leaves the windows as
    they were, the ring as the next tile finds it, and one block written over the output's staging memref. -/
noncomputable def run3 (c : Dev nD) (t : Fin cfg0.N) (arg6 : Memref sig .tc .vmem S768x768 .f32) (harg6 : arg6.IsWhole) (arg7 : Memref sig .tc .vmem S768x768 .f32) (harg7 : arg7.IsWhole) (arg8 : Memref sig .tc .vmem S768x768 .f32) (harg8 : arg8.IsWhole) (arg9 : Memref sig .tc .vmem S768x768 .f32) (harg9 : arg9.IsWhole) (arg10 : Memref sig .tc .vmem S1x768 .f32) (harg10 : arg10.IsWhole) (arg11 : Memref sig .tc .vmem S1x3 .f32) (harg11 : arg11.IsWhole) (arg12 : Memref sig .tc .vmem S1x1024x768 .f32) (harg12 : arg12.IsWhole) (hj : t.val % 4 = 3)
    (x0 : Vec F S768x768 .f32) (x1 : Vec F S768x768 .f32) (x2 : Vec F S768x768 .f32) (x3 : Vec F S768x768 .f32) (x4 : Vec F S1x768 .f32) (x5 : Vec F S1x3 .f32) (X : HB F c hx) (PL : HB F c hlo) (PH : HB F c hhi) (E : HB F c hed) :
    { L : List (View.Piece (Elt F) S1x1024x768 .f32) //
      ∀ (W : Waits sig Unit) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ d, owns (c : Thread nD τ) arg12 fullShare d) ∗ inflP c X PH E 1 (bat t) ∗ owes (c : Thread nD τ) 0 W
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ (∃ f, arg12.view.loc (c : Thread nD τ) ↦[arg12.view.set]{fullShare} arg12.view.writes (Elt F) f L)
                ∗ free c X E 1 ∗ copyOf c hhi fullShare PH ∗ (∃ W', owes (c : Thread nD τ) 0 W')) -∗ K ⟨⟩))
          ⊢ wp frame (wpE (defs₀ (F := F)) Variants.none c none) Set.univ (cc0__attn_kernel (grid0.coords t) hx (Memref.isWhole_whole _) hlo (Memref.isWhole_whole _) hhi (Memref.isWhole_whole _) hed (Memref.isWhole_whole _) arg6 harg6 arg7 harg7 arg8 harg8 arg9 harg9 arg10 harg10 arg11 harg11 arg12 harg12 scr (Memref.isWhole_whole _) cc0_scratch1) K } := by
  refine ⟨?_, fun W K => ?run⟩
  case run =>
    haveI : Fact (t.val % 4 = 3) := ⟨hj⟩
    have h1 : ¬ k0_cond1 (grid0.coords t) = 1#1 := by rw [cond1_iff]; omega
    have h2 : ¬ k0_cond2 (grid0.coords t) = 1#1 := by rw [cond2_iff]; omega
    have h3 : ¬ k0_cond3 (grid0.coords t) = 1#1 := cond3_iff t
    have h4 : k0_cond4 (grid0.coords t) = 1#1 := cond4_iff t
    simp only [cc0__attn_kernel_eq_skeleton]; unfold cc0__attn_kernel_skel
    unfold owns free inflP
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨⟨%CfM, CM⟩, CrM, ⟨%CfE, CE⟩, CrE, ⟨%CfL, CL⟩, CrL, ⟨%CfH, CH⟩, CrH, Cx⟩, HW, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    sl_exec (disch := first | sl_exact hj | sl_exact h1 | sl_exact h2 | sl_exact h3 | sl_exact h4)
    ihave WW := (slot_last c X PL PH E 1 (bat t) 3 (by decide) CfM CfE CfL CfH) $$ [CM_dst CE_dst CL_dst CH_dst]
    · isplitl [CM_dst]; · iexact CM_dst
      isplitl [CE_dst]; · iexact CE_dst
      isplitl [CL_dst]; · iexact CL_dst
      iexact CH_dst
    sl_exec (disch := first | sl_exact hj | sl_exact h1 | sl_exact h2 | sl_exact h3 | sl_exact h4)
    ihave WW := (join_slot c 1 (winF c X PL PH E (bat t) 3)).2 $$ WW
    icases WW with ⟨WM, WE, WL, WH⟩
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]; · iexists _; iexact H6
    isplitl [CM CL CH CE WM WE WL WH CM_src CrM CE_src CrE CL_src CrL Cx]
    · isplitl [CM]; · iexact CM
      isplitl [CL]; · iexact CL
      isplitl [CH]; · iexact CH
      isplitl [CE]; · iexact CE
      isplitl [WM]; · iexists _; iexact WM
      isplitl [WE]; · iexists _; iexact WE
      isplitl [WL]; · iexists _; iexact WL
      isplitl [WH]; · iexists _; iexact WH
      isplitl [CM_src CrM]
      · iapply (lendM c (bat t) 3 (qM 1) X).2; isplitl [CM_src]; · iexact CM_src
        iexact CrM
      isplitl [CE_src CrE]
      · iapply (lendE c (bat t) (qE 1) E).2; isplitl [CE_src]; · iexact CE_src
        iexact CrE
      isplitl [CL_src CrL]
      · iapply (lendL c (bat t) 3 (qL 1) X).2; isplitl [CL_src]; · iexact CL_src
        iexact CrL
      iexact Cx
    isplitl [CH_src CrH]
    · iapply (lendPH c (bat t) fullShare PH).2; isplitl [CH_src]; · iexact CH_src
      iexact CrH
    iexists _; iexact HW

end Cert.KernelIdeal.Anchor

end
-- ==== Proof.KernelIdeal.Frame.lean ====
module

public import proofs.«01_k».proof.Proof.Gen.KernelIdeal.Frame
public import proofs.«01_k».proof.Proof.KernelIdeal.Run3
public import Idealize.ShloMosaic.Lib.Claim

/-! # The launch: the ring as the region's invariant, the body at every point, and the frame -/

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The launch's set-up -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem before_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- From a run to the pipeline's post, the arguments end as they were launched. -/
theorem args_kept (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-- Each window's staging memref at a point, and one staging buffer of the output. -/
abbrev VO : View sig .tc .vmem S1x1024x768 .f32 := (Memref.whole cc0_stg6_0 : Memref sig .tc .vmem S1x1024x768 .f32).view
abbrev ms_0 (t : Fin cfg0.N) : Memref sig .tc .vmem S768x768 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S768x768 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S768x768 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S768x768 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x768 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1x3 .f32 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S1x1024x768 .f32 := win0_6.stage (cfg0.slots t 6)
abbrev hs_6 (t : Fin cfg0.N) : (ms_6 t).IsWhole := hstage0_6 ((cfg0.slots t 6).cast nbuf0_6)

/-- The body's own cells, and the arrays it copies from. -/
abbrev osem : Fin 8 → SemLoc sig := fun j => (![SemLoc.dma 8, SemLoc.dma 9, SemLoc.dma 10, SemLoc.dma 11, SemLoc.dma 12, SemLoc.dma 13, SemLoc.dma 14, SemLoc.dma 15] : Fin 8 → SemLoc sig) j
theorem osem_own : Pipeline.OwnSemFacts spec0 osem := by decide
theorem osem_zero (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) := by
  rw [Pipeline.ownSems0_eq_of_list c osem [0, 1, 2, 3, 4, 5, 6, 7] (by decide) (by decide)]; rfl
def left : Finset (Ref sig .tc) := {main_arg0, main_v1, main_v3, main_v7}
theorem left_sub : left ⊆ Pipeline.restRefs sig spec0 := by decide
theorem left_eq (c : Dev nD) :
    (bigSep left (fun b => ((c : Thread nD τ).loc b) ↦{fullShare} V m c b) : sProp 𝕄)
      = iprop(copyOf c hx fullShare (V m c main_arg0) ∗ copyOf c hlo fullShare (V m c main_v1) ∗ copyOf c hhi fullShare (V m c main_v3) ∗ copyOf c hed fullShare (V m c main_v7)) := by
  rw [BI.bigSep_eq_bigSepL_of_eq [main_arg0, main_v1, main_v3, main_v7] (by decide) (by decide)]; rfl
theorem launch_eq (c : Dev nD) :
    (Pipeline.ΦD osem spec0 left (V m) c : sProp 𝕄)
      = iprop(iprop((∃ d, owns (c : Thread nD τ) scr fullShare d)) ∗ (∃ r, prngReg c r) ∗ iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0)
        ∗ iprop(copyOf c hx fullShare (V m c main_arg0) ∗ copyOf c hlo fullShare (V m c main_v1) ∗ copyOf c hhi fullShare (V m c main_v3) ∗ copyOf c hed fullShare (V m c main_v7))) := by
  rw [Pipeline.ΦD_eq, scopedRest0_eq, osem_zero, left_eq]; simp only [scr, owns_whole]; try rfl

/-! ## The ring before a point -/

/-- The batch of point `k`. -/
def bk (k : ℕ) : Fin 2 := ⟨k / 4 % 2, Nat.mod_lt _ (by decide)⟩
section
variable (c : Dev nD) (X : HB F c hx) (PH : HB F c hhi) (E : HB F c hed)
/-- Before a batch's first tile both slots are free; from then on the next tile is in flight into its slot. -/
def ringAt (k : ℕ) : sProp 𝕄 :=
  if k % 4 = 0 then iprop(free c X E 0 ∗ free c X E 1 ∗ copyOf c hhi fullShare PH)
  else if k % 4 = 1 then iprop(inflX c X E 1 (bk k) 1 ∗ free c X E 0 ∗ copyOf c hhi fullShare PH)
  else if k % 4 = 2 then iprop(inflX c X E 0 (bk k) 2 ∗ free c X E 1 ∗ copyOf c hhi fullShare PH)
  else iprop(inflP c X PH E 1 (bk k) ∗ free c X E 0)
theorem ringAt_0 (k : ℕ) (h : k % 4 = 0) : ringAt c X PH E k = iprop(free c X E 0 ∗ free c X E 1 ∗ copyOf c hhi fullShare PH) := by
  unfold ringAt; rw [if_pos h]
theorem ringAt_1 (k : ℕ) (h : k % 4 = 1) : ringAt c X PH E k = iprop(inflX c X E 1 (bk k) 1 ∗ free c X E 0 ∗ copyOf c hhi fullShare PH) := by
  unfold ringAt; rw [if_neg (by omega), if_pos h]
theorem ringAt_2 (k : ℕ) (h : k % 4 = 2) : ringAt c X PH E k = iprop(inflX c X E 0 (bk k) 2 ∗ free c X E 1 ∗ copyOf c hhi fullShare PH) := by
  unfold ringAt; rw [if_neg (by omega), if_neg (by omega), if_pos h]
theorem ringAt_3 (k : ℕ) (h : k % 4 = 3) : ringAt c X PH E k = iprop(inflP c X PH E 1 (bk k) ∗ free c X E 0) := by
  unfold ringAt; rw [if_neg (by omega), if_neg (by omega), if_neg (by omega)]
end
omit [FloatOps F] in
theorem bk_next (t : Fin grid0.N) (h : t.val % 4 < 3) : bk (t.val + 1) = bat t := Fin.ext (by show (t.val + 1) / 4 % 2 = t.val / 4 % 2; omega)

/-- The arrays at the full share are the slots' copies, and back. -/
theorem x_shares (c : Dev nD) (X : HB F c hx) :
    (copyOf c hx fullShare X : sProp 𝕄) ⊣⊢ iprop((copyOf c hx (qM 0) X ∗ copyOf c hx (qL 0) X ∗ copyOf c hx (qH 0) X) ∗ (copyOf c hx (qM 1) X ∗ copyOf c hx (qL 1) X ∗ copyOf c hx (qH 1) X)) := by
  unfold copyOf
  have s (q : PosShare TreeShare) := pointsTo_share (Name := ℕ) (Lvl := ℕ) (U := Pipeline.UD sig nD τ) (Ix := Unit) (ℓ := hx.view.loc (c : Thread nD τ)) (I := Finset.univ) (f := X) (PosShare.mem_left_op_right q)
  constructor
  · iintro H
    ihave H := (s fullShare).1 $$ H
    icases H with ⟨HA, HB⟩
    ihave HA := (s fullShare.left).1 $$ HA
    icases HA with ⟨A1, HA⟩
    ihave HA := (s fullShare.left.right).1 $$ HA
    icases HA with ⟨A2, A3⟩
    ihave HB := (s fullShare.right).1 $$ HB
    icases HB with ⟨B1, HB⟩
    ihave HB := (s fullShare.right.right).1 $$ HB
    icases HB with ⟨B2, B3⟩
    isplitl [A1 A2 A3]
    · isplitl [A1]; · iexact A1
      isplitl [A2]; · iexact A2
      iexact A3
    isplitl [B1]; · iexact B1
    isplitl [B2]; · iexact B2
    iexact B3
  · iintro ⟨⟨A1, A2, A3⟩, ⟨B1, B2, B3⟩⟩
    iapply (s fullShare).2
    isplitl [A1 A2 A3]
    · iapply (s fullShare.left).2
      isplitl [A1]; · iexact A1
      iapply (s fullShare.left.right).2
      isplitl [A2]; · iexact A2
      iexact A3
    iapply (s fullShare.right).2
    isplitl [B1]; · iexact B1
    iapply (s fullShare.right.right).2
    isplitl [B2]; · iexact B2
    iexact B3
theorem e_shares (c : Dev nD) (E : HB F c hed) :
    (copyOf c hed fullShare E : sProp 𝕄) ⊣⊢ iprop(copyOf c hed (qE 0) E ∗ copyOf c hed (qE 1) E) := by
  unfold copyOf
  exact pointsTo_share (PosShare.mem_left_op_right fullShare)

/-- A slot's cells, parts and copies are the slot free, and back. -/
theorem free_in (c : Dev nD) (X : HB F c hx) (E : HB F c hed) (s : Fin 2) :
    iprop((cell0 c s 0 ∗ cell0 c s 1 ∗ cell0 c s 2 ∗ cell0 c s 3) ∗ (∃ f, part (F := F) c (dstW s) fullShare f)
      ∗ (copyOf c hx (qM s) X ∗ copyOf c hx (qL s) X ∗ copyOf c hx (qH s) X) ∗ copyOf c hed (qE s) E) ⊢ (free c X E s : sProp 𝕄) := by
  unfold free
  iintro ⟨⟨H0, H1, H2, H3⟩, ⟨%f, HW⟩, ⟨HM, HL, HH⟩, HE⟩
  ihave HW := (join_slot c s f).2 $$ HW
  icases HW with ⟨WM, WE, WL, WH⟩
  isplitl [H0]; · iexact H0
  isplitl [H1]; · iexact H1
  isplitl [H2]; · iexact H2
  isplitl [H3]; · iexact H3
  isplitl [WM]; · iexists f; iexact WM
  isplitl [WE]; · iexists f; iexact WE
  isplitl [WL]; · iexists f; iexact WL
  isplitl [WH]; · iexists f; iexact WH
  isplitl [HM]; · iexact HM
  isplitl [HE]; · iexact HE
  isplitl [HL]; · iexact HL
  iexact HH
theorem free_out (c : Dev nD) (X : HB F c hx) (E : HB F c hed) (s : Fin 2) :
    (free c X E s : sProp 𝕄) ⊢ iprop((cell0 c s 0 ∗ cell0 c s 1 ∗ cell0 c s 2 ∗ cell0 c s 3) ∗ (∃ f, part (F := F) c (dstW s) fullShare f)
      ∗ (copyOf c hx (qM s) X ∗ copyOf c hx (qL s) X ∗ copyOf c hx (qH s) X) ∗ copyOf c hed (qE s) E) := by
  unfold free
  iintro ⟨H0, H1, H2, H3, ⟨%f, WM⟩, ⟨%g, WE⟩, ⟨%h, WL⟩, ⟨%k, WH⟩, HM, HE, HL, HH⟩
  isplitl [H0 H1 H2 H3]
  · isplitl [H0]; · iexact H0
    isplitl [H1]; · iexact H1
    isplitl [H2]; · iexact H2
    iexact H3
  isplitl [WM WE WL WH]
  · iapply (gather_slot (F := F) c s f g h k)
    isplitl [WM]; · iexact WM
    isplitl [WE]; · iexact WE
    isplitl [WL]; · iexact WL
    iexact WH
  isplitl [HM HL HH]
  · isplitl [HM]; · iexact HM
    isplitl [HL]; · iexact HL
    iexact HH
  iexact HE

/-! ## The proof data -/

/-- What the body leaves in the output's staging buffer at a point: its tile's run's block. -/
def outAt (c : Dev nD) (t : Fin cfg0.N) : Vec F S1x1024x768 .f32 :=
  if h0 : t.val % 4 = 0 then VO.read (Elt F) (VO.writes (Elt F) VO.junk (run0 c t (ms_0 t) (hs_0 t) (ms_1 t) (hs_1 t) (ms_2 t) (hs_2 t) (ms_3 t) (hs_3 t) (ms_4 t) (hs_4 t) (ms_5 t) (hs_5 t) (ms_6 t) (hs_6 t) h0 (iblk m c 0 t) (iblk m c 1 t) (iblk m c 2 t) (iblk m c 3 t) (iblk m c 4 t) (iblk m c 5 t) (V m c main_arg0) (V m c main_v1) (V m c main_v3) (V m c main_v7)).1)
  else if h1 : t.val % 4 = 1 then VO.read (Elt F) (VO.writes (Elt F) VO.junk (run1 c t (ms_0 t) (hs_0 t) (ms_1 t) (hs_1 t) (ms_2 t) (hs_2 t) (ms_3 t) (hs_3 t) (ms_4 t) (hs_4 t) (ms_5 t) (hs_5 t) (ms_6 t) (hs_6 t) h1 (iblk m c 0 t) (iblk m c 1 t) (iblk m c 2 t) (iblk m c 3 t) (iblk m c 4 t) (iblk m c 5 t) (V m c main_arg0) (V m c main_v1) (V m c main_v3) (V m c main_v7)).1)
  else if h2 : t.val % 4 = 2 then VO.read (Elt F) (VO.writes (Elt F) VO.junk (run2 c t (ms_0 t) (hs_0 t) (ms_1 t) (hs_1 t) (ms_2 t) (hs_2 t) (ms_3 t) (hs_3 t) (ms_4 t) (hs_4 t) (ms_5 t) (hs_5 t) (ms_6 t) (hs_6 t) h2 (iblk m c 0 t) (iblk m c 1 t) (iblk m c 2 t) (iblk m c 3 t) (iblk m c 4 t) (iblk m c 5 t) (V m c main_arg0) (V m c main_v1) (V m c main_v3) (V m c main_v7)).1)
  else VO.read (Elt F) (VO.writes (Elt F) VO.junk (run3 c t (ms_0 t) (hs_0 t) (ms_1 t) (hs_1 t) (ms_2 t) (hs_2 t) (ms_3 t) (hs_3 t) (ms_4 t) (hs_4 t) (ms_5 t) (hs_5 t) (ms_6 t) (hs_6 t) (by omega) (iblk m c 0 t) (iblk m c 1 t) (iblk m c 2 t) (iblk m c 3 t) (iblk m c 4 t) (iblk m c 5 t) (V m c main_arg0) (V m c main_v1) (V m c main_v3) (V m c main_v7)).1)
theorem outAt_0 (c : Dev nD) (t : Fin cfg0.N) (h : t.val % 4 = 0) : outAt m c t = VO.read (Elt F) (VO.writes (Elt F) VO.junk (run0 c t (ms_0 t) (hs_0 t) (ms_1 t) (hs_1 t) (ms_2 t) (hs_2 t) (ms_3 t) (hs_3 t) (ms_4 t) (hs_4 t) (ms_5 t) (hs_5 t) (ms_6 t) (hs_6 t) h (iblk m c 0 t) (iblk m c 1 t) (iblk m c 2 t) (iblk m c 3 t) (iblk m c 4 t) (iblk m c 5 t) (V m c main_arg0) (V m c main_v1) (V m c main_v3) (V m c main_v7)).1) := dif_pos h
theorem outAt_1 (c : Dev nD) (t : Fin cfg0.N) (h : t.val % 4 = 1) : outAt m c t = VO.read (Elt F) (VO.writes (Elt F) VO.junk (run1 c t (ms_0 t) (hs_0 t) (ms_1 t) (hs_1 t) (ms_2 t) (hs_2 t) (ms_3 t) (hs_3 t) (ms_4 t) (hs_4 t) (ms_5 t) (hs_5 t) (ms_6 t) (hs_6 t) h (iblk m c 0 t) (iblk m c 1 t) (iblk m c 2 t) (iblk m c 3 t) (iblk m c 4 t) (iblk m c 5 t) (V m c main_arg0) (V m c main_v1) (V m c main_v3) (V m c main_v7)).1) := (dif_neg (by omega)).trans (dif_pos h)
theorem outAt_2 (c : Dev nD) (t : Fin cfg0.N) (h : t.val % 4 = 2) : outAt m c t = VO.read (Elt F) (VO.writes (Elt F) VO.junk (run2 c t (ms_0 t) (hs_0 t) (ms_1 t) (hs_1 t) (ms_2 t) (hs_2 t) (ms_3 t) (hs_3 t) (ms_4 t) (hs_4 t) (ms_5 t) (hs_5 t) (ms_6 t) (hs_6 t) h (iblk m c 0 t) (iblk m c 1 t) (iblk m c 2 t) (iblk m c 3 t) (iblk m c 4 t) (iblk m c 5 t) (V m c main_arg0) (V m c main_v1) (V m c main_v3) (V m c main_v7)).1) := (dif_neg (by omega)).trans ((dif_neg (by omega)).trans (dif_pos h))
theorem outAt_3 (c : Dev nD) (t : Fin cfg0.N) (h : t.val % 4 = 3) : outAt m c t = VO.read (Elt F) (VO.writes (Elt F) VO.junk (run3 c t (ms_0 t) (hs_0 t) (ms_1 t) (hs_1 t) (ms_2 t) (hs_2 t) (ms_3 t) (hs_3 t) (ms_4 t) (hs_4 t) (ms_5 t) (hs_5 t) (ms_6 t) (hs_6 t) h (iblk m c 0 t) (iblk m c 1 t) (iblk m c 2 t) (iblk m c 3 t) (iblk m c 4 t) (iblk m c 5 t) (V m c main_arg0) (V m c main_v1) (V m c main_v3) (V m c main_v7)).1) := (dif_neg (by omega)).trans ((dif_neg (by omega)).trans ((dif_neg (by omega)).trans (rfl)))

/-- The region's invariant before point `k`. -/
def inv (c : Dev nD) (k : ℕ) : sProp 𝕄 :=
  iprop((∃ r, prngReg c r) ∗ copyOf c hlo fullShare (V m c main_v1) ∗ ringAt c (V m c main_arg0) (V m c main_v3) (V m c main_v7) k)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := inv m c t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv m c t.val := by
  dsimp only [dats]; simp only [Fin.coe_castSucc]
theorem inv_succ (c : Dev nD) (t : Fin cfg0.N) : (dats m 0 c).Φ t.succ = inv m c (t.val + 1) := by
  dsimp only [dats]; simp only [Fin.val_succ]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ owns (c : Thread nD τ) (ms_5 t) fullShare ((dats m 0 c).after 5 t)
    ∗ owns (c : Thread nD τ) (ms_6 t) fullShare ((dats m 0 c).after 6 t))

set_option maxHeartbeats 1600000 in
theorem body_0 (c : Dev nD) (t : Fin cfg0.N) (hj : t.val % 4 = 0) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6]
  rw [inv_castSucc m c t, inv_succ m c t]
  unfold Dat.owesAt Pipeline.owesWithin
  rw [show (dats m 0 c).owed t.castSucc = 0 from rfl, show (dats m 0 c).owed t.succ = 0 from rfl]
  unfold inv
  rw [outAt_0 m c t hj, ringAt_0 _ _ _ _ _ hj, ringAt_1 _ _ _ _ (t.val + 1) (by omega), bk_next t (by omega)]
  iintro ⟨⟨Hg, PL, ⟨FC, FN, PH⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run0 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [FC]; · iexact FC
  isplitl [FN]; · iexact FN
  isplitl [PL]; · iexact PL
  isplitl [HW]; · iexact HW
  iintro ⟨H0, H1, H2, H3, H4, H5, ⟨%e6, H6⟩, IN, FC, PL, ⟨%W', HW'⟩⟩
  isplitl [Hg PL IN FC PH]
  · isplitl [Hg]; · iexact Hg
    isplitl [PL]; · iexact PL
    isplitl [IN]; · iexact IN
    isplitl [FC]; · iexact FC
    iexact PH
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (fun y => View.cover_of_tiledL (run0 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).1 S1x1024x768.size (by sl_kernel_rfl) y)
set_option maxHeartbeats 1600000 in
theorem body_1 (c : Dev nD) (t : Fin cfg0.N) (hj : t.val % 4 = 1) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6]
  rw [inv_castSucc m c t, inv_succ m c t]
  unfold Dat.owesAt Pipeline.owesWithin
  rw [show (dats m 0 c).owed t.castSucc = 0 from rfl, show (dats m 0 c).owed t.succ = 0 from rfl]
  unfold inv
  rw [outAt_1 m c t hj, ringAt_1 _ _ _ _ _ hj, ringAt_2 _ _ _ _ (t.val + 1) (by omega), bk_next t (by omega), show bk t.val = bat t from rfl]
  iintro ⟨⟨Hg, PL, ⟨IC, FN, PH⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run1 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [IC]; · iexact IC
  isplitl [FN]; · iexact FN
  isplitl [HW]; · iexact HW
  iintro ⟨H0, H1, H2, H3, H4, H5, ⟨%e6, H6⟩, IN, FC, ⟨%W', HW'⟩⟩
  isplitl [Hg PL IN FC PH]
  · isplitl [Hg]; · iexact Hg
    isplitl [PL]; · iexact PL
    isplitl [IN]; · iexact IN
    isplitl [FC]; · iexact FC
    iexact PH
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (fun y => View.cover_of_tiledL (run1 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).1 S1x1024x768.size (by sl_kernel_rfl) y)
set_option maxHeartbeats 1600000 in
theorem body_2 (c : Dev nD) (t : Fin cfg0.N) (hj : t.val % 4 = 2) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6]
  rw [inv_castSucc m c t, inv_succ m c t]
  unfold Dat.owesAt Pipeline.owesWithin
  rw [show (dats m 0 c).owed t.castSucc = 0 from rfl, show (dats m 0 c).owed t.succ = 0 from rfl]
  unfold inv
  rw [outAt_2 m c t hj, ringAt_2 _ _ _ _ _ hj, ringAt_3 _ _ _ _ (t.val + 1) (by omega), bk_next t (by omega), show bk t.val = bat t from rfl]
  iintro ⟨⟨Hg, PL, ⟨IC, FN, PH⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run2 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [IC]; · iexact IC
  isplitl [FN]; · iexact FN
  isplitl [PH]; · iexact PH
  isplitl [HW]; · iexact HW
  iintro ⟨H0, H1, H2, H3, H4, H5, ⟨%e6, H6⟩, IN, FC, ⟨%W', HW'⟩⟩
  isplitl [Hg PL IN FC]
  · isplitl [Hg]; · iexact Hg
    isplitl [PL]; · iexact PL
    isplitl [IN]; · iexact IN
    iexact FC
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (fun y => View.cover_of_tiledL (run2 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).1 S1x1024x768.size (by sl_kernel_rfl) y)
set_option maxHeartbeats 1600000 in
theorem body_3 (c : Dev nD) (t : Fin cfg0.N) (hj : t.val % 4 = 3) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [after_0, after_1, after_2, after_3, after_4, after_5, after_6]
  rw [inv_castSucc m c t, inv_succ m c t]
  unfold Dat.owesAt Pipeline.owesWithin
  rw [show (dats m 0 c).owed t.castSucc = 0 from rfl, show (dats m 0 c).owed t.succ = 0 from rfl]
  unfold inv
  rw [outAt_3 m c t hj, ringAt_3 _ _ _ _ _ hj, ringAt_0 _ _ _ _ (t.val + 1) (by omega), show bk t.val = bat t from rfl]
  iintro ⟨⟨Hg, PL, ⟨IC, FN⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((run3 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).2 W _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [IC]; · iexact IC
  isplitl [HW]; · iexact HW
  iintro ⟨H0, H1, H2, H3, H4, H5, ⟨%e6, H6⟩, FC, PH, ⟨%W', HW'⟩⟩
  isplitl [Hg PL FN FC PH]
  · isplitl [Hg]; · iexact Hg
    isplitl [PL]; · iexact PL
    isplitl [FN]; · iexact FN
    isplitl [FC]; · iexact FC
    iexact PH
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (fun y => View.cover_of_tiledL (run3 c t (ms_0 t) (hs_0 t) (ms_1 t) (hs_1 t) (ms_2 t) (hs_2 t) (ms_3 t) (hs_3 t) (ms_4 t) (hs_4 t) (ms_5 t) (hs_5 t) (ms_6 t) (hs_6 t) hj (iblk m c 0 t) (iblk m c 1 t) (iblk m c 2 t) (iblk m c 3 t) (iblk m c 4 t) (iblk m c 5 t) (V m c main_arg0) (V m c main_v1) (V m c main_v3) (V m c main_v7)).1 S1x1024x768.size (by sl_kernel_rfl) y)

theorem body_sound (c : Dev nD) (t : Fin cfg0.N) :
    bodyPre m c t ⊢ wp frame (wpE (defs₀ (F := F)) Variants.none c none) Set.univ (bodyAt0 t) (fun _ => bodyPost m c t) := by
  rcases (show t.val % 4 = 0 ∨ t.val % 4 = 1 ∨ t.val % 4 = 2 ∨ t.val % 4 = 3 by omega) with h | h | h | h
  · exact body_0 m c t h
  · exact body_1 m c t h
  · exact body_2 m c t h
  · exact body_3 m c t h

theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

/-! ## Into the ring at the launch, and out of it at the end -/

theorem cells_eq (c : Dev nD) : (iprop(semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0) : sProp 𝕄) = iprop(cell0 c 0 0 ∗ cell0 c 0 1 ∗ cell0 c 0 2 ∗ cell0 c 0 3 ∗ cell0 c 1 0 ∗ cell0 c 1 1 ∗ cell0 c 1 2 ∗ cell0 c 1 3) := by
  simp only [cell0, cellR_eq]; rfl

theorem hin (c : Dev nD) : Pipeline.ΦD osem spec0 left (V m) c ⊢ (dats m 0 c).Φ 0 := by
  rw [launch_eq, show (dats m 0 c).Φ 0 = inv m c 0 from rfl, cells_eq]
  unfold inv
  rw [ringAt_0 _ _ _ _ 0 rfl]
  iintro ⟨HS, Hg, ⟨C0, C1, C2, C3, C4, C5, C6, C7⟩, ⟨Hx, Hlo, Hhi, He⟩⟩
  ihave HS := (scr_in (F := F) c) $$ HS
  icases HS with ⟨S0, S1⟩
  ihave Hx := (x_shares (F := F) c _).1 $$ Hx
  icases Hx with ⟨X0, X1⟩
  ihave He := (e_shares (F := F) c _).1 $$ He
  icases He with ⟨E0, E1⟩
  isplitl [Hg]; · iexact Hg
  isplitl [Hlo]; · iexact Hlo
  isplitl [C0 C1 C2 C3 S0 X0 E0]
  · iapply (free_in (F := F) c _ _ 0)
    isplitl [C0 C1 C2 C3]
    · isplitl [C0]; · iexact C0
      isplitl [C1]; · iexact C1
      isplitl [C2]; · iexact C2
      iexact C3
    isplitl [S0]; · iexact S0
    isplitl [X0]; · iexact X0
    iexact E0
  isplitl [C4 C5 C6 C7 S1 X1 E1]
  · iapply (free_in (F := F) c _ _ 1)
    isplitl [C4 C5 C6 C7]
    · isplitl [C4]; · iexact C4
      isplitl [C5]; · iexact C5
      isplitl [C6]; · iexact C6
      iexact C7
    isplitl [S1]; · iexact S1
    isplitl [X1]; · iexact X1
    iexact E1
  iexact Hhi

theorem hout (c : Dev nD) : (dats m 0 c).Φ (Fin.last cfg0.N) ⊢ Pipeline.ΦD osem spec0 left (V m) c := by
  rw [launch_eq, show (dats m 0 c).Φ (Fin.last cfg0.N) = inv m c grid0.N from rfl, cells_eq]
  unfold inv
  rw [ringAt_0 _ _ _ _ grid0.N (by rw [N_0])]
  iintro ⟨Hg, Hlo, F0, F1, Hhi⟩
  ihave F0 := (free_out (F := F) c _ _ 0) $$ F0
  icases F0 with ⟨⟨C0, C1, C2, C3⟩, S0, X0, E0⟩
  ihave F1 := (free_out (F := F) c _ _ 1) $$ F1
  icases F1 with ⟨⟨C4, C5, C6, C7⟩, S1, X1, E1⟩
  isplitl [S0 S1]
  · iapply (scr_out (F := F) c)
    isplitl [S0]; · iexact S0
    iexact S1
  isplitl [Hg]; · iexact Hg
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [X0 X1]
  · iapply (x_shares (F := F) c _).2
    isplitl [X0]; · iexact X0
    iexact X1
  isplitl [Hlo]; · iexact Hlo
  isplitl [Hhi]; · iexact Hhi
  iapply (e_shares (F := F) c _).2
  isplitl [E0]; · iexact E0
  iexact E1

/-! ## The run and the frame -/

set_option backward.isDefEq.respectTransparency.types false in
/-- Every fair execution ends, with the pipeline's arrays at what the proof data computes and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.none osem_own left left_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

theorem run_post : θ_run defs (onTc (τ := τ) (main (F := F))) (s₀ m ρ) (Pipeline.FramePost cfgs (dats m) 0 (V m)) :=
  (θ_run defs _ _).mono (fun _ h => h.1) (run_quiescent m ρ)

/-- The frame: the arguments end as they were, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (args_kept m ρ (dats m) (A_eq m) (run_post m ρ)) ((θ_run defs _ _).mono (fun _ h => h.2) (run_quiescent m ρ))

end Cert.KernelIdeal.Anchor

end
-- ==== Proof.KernelIdeal.Body.lean ====
/- What one grid point computes, as one function of the window it has in its slot and of its blocks. -/
module

public import proofs.«01_k».proof.Proof.KernelIdeal.Frame
public import Idealize.ShloMosaic.Lib.VecWindow
public import Idealize.ShloMosaic.Lib.Tactic.Stretches
public import Idealize.ShloMosaic.Lib.Pipeline.ValueKit.Geometry

@[expose] public section

set_option maxRecDepth 16384
set_option pp.maxSteps 400

noncomputable section

namespace Cert.KernelIdeal.Anchor

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)
open Cert.KernelIdeal.Gen

variable {F : FTy → Type} [FloatOps F]

/-- The body's stored block: the attention of the 1024 middle rows `Q` of a window `W` over the window's rows, projected. -/
def bodyVal (Q : Vec F S1024x768 .f32) (W : Vec F S1x1072x768 .f32) (wq wk wv wo : Vec F S768x768 .f32) (bo : Vec F S1x768 .f32)
    (gs : Vec F S1x3 .f32) : Vec F S1x1024x768 .f32 :=
  let v37 := k0_pay2 Q wq
  let v43 := k0_pay3 W wk
  let v49 := k0_pay4 W wv
  let v63 := k0_pay5 gs
  let v94 : FVec F S768x16 .f32 := k0_pay6 (iota .tc S768x16 32 [0] iota_S768x16_d0_w32)
  let v123 : FVec F S16x768 .f32 := k0_pay10 (iota .tc S16x768 32 [0] iota_S16x768_d0_w32) (iota .tc S16x768 32 [1] iota_S16x768_d1_w32) 64#32 k0_pay7 k0_pay8 k0_pay9
  let v172 := k0_pay33 v37 v94 (k0_pay12 v43)
  let e0 := k0_pay35 v63 (k0_pay14 v37 v43 v94)
  let e1 := k0_pay36 v63 (k0_pay16 v37 v43 v94)
  let e2 := k0_pay37 v63 (k0_pay18 v37 v43 v94)
  let e3 := k0_pay38 v63 (k0_pay20 v37 v43 v94)
  let e4 := k0_pay39 v63 (k0_pay22 v37 v43 v94)
  let e5 := k0_pay40 v63 (k0_pay24 v37 v43 v94)
  let e6 := k0_pay41 v63 (k0_pay26 v37 v43 v94)
  let e7 := k0_pay42 v63 (k0_pay28 v37 v43 v94)
  let e8 := k0_pay43 v63 v94 (k0_pay30 v37 v43) (constant S1024x16 .f32 0x00000000#32)
  let e9 := k0_pay44 v37 v43 v63 v94
  let e10 := k0_pay45 v37 v63 v94 (k0_pay11 v43)
  k0_pay1 v123 (k0_pay32 v49) (k0_pay34 v49) e10 (k0_pay46 v63 v172)
    (k0_pay47 v63 v172 e0 e1 e2 e3 e4 e5 e6 e7 e8 e9 e10)
    (k0_pay48 v123 (k0_pay13 v49) (k0_pay15 v49) (k0_pay17 v49) (k0_pay19 v49) (k0_pay21 v49) (k0_pay23 v49) (k0_pay25 v49) (k0_pay27 v49) (k0_pay29 v49) (k0_pay31 v49)
      e0 e1 e2 e3 e4 e5 e6 e7 e8 e9) wo bo

theorem bodyVal_congr {Q Q' : Vec F S1024x768 .f32} {W W' : Vec F S1x1072x768 .f32} {wq wq' wk wk' wv wv' wo wo' : Vec F S768x768 .f32} {bo bo' : Vec F S1x768 .f32}
    {gs gs' : Vec F S1x3 .f32} (h : Q = Q') (h0 : W = W') (h1 : wq = wq') (h2 : wk = wk') (h3 : wv = wv') (h4 : wo = wo') (h5 : bo = bo') (h6 : gs = gs') :
    bodyVal Q W wq wk wv wo bo gs = bodyVal Q' W' wq' wk' wv' wo' bo' gs' := by subst h h0 h1 h2 h3 h4 h5 h6; rfl

/-- The window of batch `b`, tile `n`, as one slot's block. -/
def winBlk (c : Dev nD) (X : HB F c hx) (PL : HB F c hlo) (PH : HB F c hhi) (E : HB F c hed) (b : Fin 2) (n : Fin 4) : Vec F S1x1072x768 .f32 :=
  fun i => (winF c X PL PH E b n : S2x1072x768.Idx → Elt F .f32) (ix3 (0 : Fin 2) (i 1 : Fin 1072) (i 2 : Fin 768))
/-- Its 1024 middle rows. -/
def midBlk (c : Dev nD) (X : HB F c hx) (PL : HB F c hlo) (PH : HB F c hhi) (E : HB F c hed) (b : Fin 2) (n : Fin 4) : Vec F S1024x768 .f32 :=
  fun i => (winF c X PL PH E b n : S2x1072x768.Idx → Elt F .f32) (ix3 (0 : Fin 2) (⟨16 + (i 0).val, by have := (i 0).isLt; show _ < 1072; change (i 0).val < 1024 at this; omega⟩ : Fin 1072) (i 1 : Fin 768))

variable (m : (ℓ : Loc nD τ sig) → Buf (Elt F) ℓ)

theorem mid_read (c : Dev nD) (s : Fin 2) (X : HB F c hx) (PL : HB F c hlo) (PH : HB F c hhi) (E : HB F c hed) (b : Fin 2) (n : Fin 4) :
    View.readAt (Elt F) (dstW s).view (Rect.unit (s := S1072x768) ![16, 0] S1024x768.size inb_S1072x768_S1024x768_16_0).toLoadRect (winF c X PL PH E b n) = midBlk c X PL PH E b n := by
  funext i
  obtain ⟨r, k, rfl⟩ : ∃ (r : Fin 1024) (k : Fin 768), i = ix2 r k := ⟨i 0, i 1, by funext a; fin_cases a <;> rfl⟩
  have he : (Rect.unit (s := S1072x768) ![16, 0] S1024x768.size inb_S1072x768_S1024x768_16_0).emb (ix2 r k) = (ix2 ⟨16 + r.val, by omega⟩ k : S1072x768.Idx) := by
    funext a; apply Fin.ext
    refine (ValueKit.rect_emb_unit_val _ _ _ _ _).trans ?_
    fin_cases a <;> simp [ix2]
  refine (show _ = (dstW s).view.read (Elt F) (winF c X PL PH E b n) ((Rect.unit (s := S1072x768) ![16, 0] S1024x768.size inb_S1072x768_S1024x768_16_0).emb (ix2 r k)) from rfl).trans ?_
  rw [he]
  refine (show _ = winF c X PL PH E b n ((dstW s).view.emb (ix2 ⟨16 + r.val, by omega⟩ k)) from rfl).trans ?_
  rw [emb_dstW]
  have hz : (⟨0 + (16 + r.val), by omega⟩ : Fin 1072) = ⟨16 + r.val, by omega⟩ := Fin.ext (Nat.zero_add _)
  rw [hz]
  rfl

theorem win_read (c : Dev nD) (s : Fin 2) (X : HB F c hx) (PL : HB F c hlo) (PH : HB F c hhi) (E : HB F c hed) (b : Fin 2) (n : Fin 4)
    (o : Fin 3 → ℕ) (ho : o = ![s.val, 0, 0]) (inb) :
    View.readAt (Elt F) scr.view (Rect.unit (s := S2x1072x768) o S1x1072x768.size inb).toLoadRect (winF c X PL PH E b n) = winBlk c X PL PH E b n := by
  subst ho
  funext i
  obtain ⟨z, r, k, rfl⟩ : ∃ (z : Fin 1) (r : Fin 1072) (k : Fin 768), i = ix3 z r k := ⟨i 0, i 1, i 2, by funext a; fin_cases a <;> rfl⟩
  have he : (Rect.unit (s := S2x1072x768) ![s.val, 0, 0] S1x1072x768.size inb).emb (ix3 z r k) = (ix3 s r k : S2x1072x768.Idx) := by
    funext a; apply Fin.ext
    refine (ValueKit.rect_emb_unit_val _ _ _ _ _).trans ?_
    fin_cases a <;> simp [ix3]
  refine (show _ = winF c X PL PH E b n ((Rect.unit (s := S2x1072x768) ![s.val, 0, 0] S1x1072x768.size inb).emb (ix3 z r k)) from rfl).trans ?_
  rw [he]
  rfl

set_option maxHeartbeats 1000000 in
/-- Tile 0's block is the body's function of its window and its blocks. -/
theorem read_0 (c : Dev nD) (t : Fin cfg0.N) (hj : t.val % 4 = 0) : outAt m c t
    = bodyVal (midBlk c (V m c main_arg0) (V m c main_v1) (V m c main_v3) (V m c main_v7) (bat t) 0) (winBlk c (V m c main_arg0) (V m c main_v1) (V m c main_v3) (V m c main_v7) (bat t) 0)
        (iblk m c 0 t) (iblk m c 1 t) (iblk m c 2 t) (iblk m c 3 t) (iblk m c 4 t) (iblk m c 5 t) := by
  rw [outAt_0 m c t hj]
  unfold run0
  refine (View.read_writes_full VO VO.junk _ _ []).trans ?_
  sl_open_run
  have hb : ∀ a, k0_off34 (grid0.coords t) a + S1x1072x768.size a ≤ S2x1072x768.size a := by rw [off_10 t hj]; decide
  refine Eq.trans ?_ (bodyVal_congr (mid_read c 0 (V m c main_arg0) (V m c main_v1) (V m c main_v3) (V m c main_v7) (bat t) 0) (win_read c 0 (V m c main_arg0) (V m c main_v1) (V m c main_v3) (V m c main_v7) (bat t) 0 _ (off_10 t hj) hb) ((View.readAt_full (ms_0 t).view _ inb_S768x768_S768x768_0_0).trans ((hs_0 t).read_unread (iblk m c 0 t))) ((View.readAt_full (ms_1 t).view _ inb_S768x768_S768x768_0_0).trans ((hs_1 t).read_unread (iblk m c 1 t))) ((View.readAt_full (ms_2 t).view _ inb_S768x768_S768x768_0_0).trans ((hs_2 t).read_unread (iblk m c 2 t))) ((View.readAt_full (ms_3 t).view _ inb_S768x768_S768x768_0_0).trans ((hs_3 t).read_unread (iblk m c 3 t))) ((View.readAt_full (ms_4 t).view _ inb_S1x768_S1x768_0_0).trans ((hs_4 t).read_unread (iblk m c 4 t))) ((View.readAt_full (ms_5 t).view _ inb_S1x3_S1x3_0_0).trans ((hs_5 t).read_unread (iblk m c 5 t))))
  rfl

set_option maxHeartbeats 1000000 in
/-- Tile 1's block is the body's function of its window and its blocks. -/
theorem read_1 (c : Dev nD) (t : Fin cfg0.N) (hj : t.val % 4 = 1) : outAt m c t
    = bodyVal (midBlk c (V m c main_arg0) (V m c main_v1) (V m c main_v3) (V m c main_v7) (bat t) 1) (winBlk c (V m c main_arg0) (V m c main_v1) (V m c main_v3) (V m c main_v7) (bat t) 1)
        (iblk m c 0 t) (iblk m c 1 t) (iblk m c 2 t) (iblk m c 3 t) (iblk m c 4 t) (iblk m c 5 t) := by
  rw [outAt_1 m c t hj]
  unfold run1
  refine (View.read_writes_full VO VO.junk _ _ []).trans ?_
  sl_open_run
  have hb : ∀ a, k0_off34 (grid0.coords t) a + S1x1072x768.size a ≤ S2x1072x768.size a := by rw [off_44 t hj]; decide
  refine Eq.trans ?_ (bodyVal_congr (mid_read c 1 (V m c main_arg0) (V m c main_v1) (V m c main_v3) (V m c main_v7) (bat t) 1) (win_read c 1 (V m c main_arg0) (V m c main_v1) (V m c main_v3) (V m c main_v7) (bat t) 1 _ (off_44 t hj) hb) ((View.readAt_full (ms_0 t).view _ inb_S768x768_S768x768_0_0).trans ((hs_0 t).read_unread (iblk m c 0 t))) ((View.readAt_full (ms_1 t).view _ inb_S768x768_S768x768_0_0).trans ((hs_1 t).read_unread (iblk m c 1 t))) ((View.readAt_full (ms_2 t).view _ inb_S768x768_S768x768_0_0).trans ((hs_2 t).read_unread (iblk m c 2 t))) ((View.readAt_full (ms_3 t).view _ inb_S768x768_S768x768_0_0).trans ((hs_3 t).read_unread (iblk m c 3 t))) ((View.readAt_full (ms_4 t).view _ inb_S1x768_S1x768_0_0).trans ((hs_4 t).read_unread (iblk m c 4 t))) ((View.readAt_full (ms_5 t).view _ inb_S1x3_S1x3_0_0).trans ((hs_5 t).read_unread (iblk m c 5 t))))
  rfl

set_option maxHeartbeats 1000000 in
/-- Tile 2's block is the body's function of its window and its blocks. -/
theorem read_2 (c : Dev nD) (t : Fin cfg0.N) (hj : t.val % 4 = 2) : outAt m c t
    = bodyVal (midBlk c (V m c main_arg0) (V m c main_v1) (V m c main_v3) (V m c main_v7) (bat t) 2) (winBlk c (V m c main_arg0) (V m c main_v1) (V m c main_v3) (V m c main_v7) (bat t) 2)
        (iblk m c 0 t) (iblk m c 1 t) (iblk m c 2 t) (iblk m c 3 t) (iblk m c 4 t) (iblk m c 5 t) := by
  rw [outAt_2 m c t hj]
  unfold run2
  refine (View.read_writes_full VO VO.junk _ _ []).trans ?_
  sl_open_run
  have hb : ∀ a, k0_off34 (grid0.coords t) a + S1x1072x768.size a ≤ S2x1072x768.size a := by rw [off_66 t hj]; decide
  refine Eq.trans ?_ (bodyVal_congr (mid_read c 0 (V m c main_arg0) (V m c main_v1) (V m c main_v3) (V m c main_v7) (bat t) 2) (win_read c 0 (V m c main_arg0) (V m c main_v1) (V m c main_v3) (V m c main_v7) (bat t) 2 _ (off_66 t hj) hb) ((View.readAt_full (ms_0 t).view _ inb_S768x768_S768x768_0_0).trans ((hs_0 t).read_unread (iblk m c 0 t))) ((View.readAt_full (ms_1 t).view _ inb_S768x768_S768x768_0_0).trans ((hs_1 t).read_unread (iblk m c 1 t))) ((View.readAt_full (ms_2 t).view _ inb_S768x768_S768x768_0_0).trans ((hs_2 t).read_unread (iblk m c 2 t))) ((View.readAt_full (ms_3 t).view _ inb_S768x768_S768x768_0_0).trans ((hs_3 t).read_unread (iblk m c 3 t))) ((View.readAt_full (ms_4 t).view _ inb_S1x768_S1x768_0_0).trans ((hs_4 t).read_unread (iblk m c 4 t))) ((View.readAt_full (ms_5 t).view _ inb_S1x3_S1x3_0_0).trans ((hs_5 t).read_unread (iblk m c 5 t))))
  rfl

set_option maxHeartbeats 1000000 in
/-- Tile 3's block is the body's function of its window and its blocks. -/
theorem read_3 (c : Dev nD) (t : Fin cfg0.N) (hj : t.val % 4 = 3) : outAt m c t
    = bodyVal (midBlk c (V m c main_arg0) (V m c main_v1) (V m c main_v3) (V m c main_v7) (bat t) 3) (winBlk c (V m c main_arg0) (V m c main_v1) (V m c main_v3) (V m c main_v7) (bat t) 3)
        (iblk m c 0 t) (iblk m c 1 t) (iblk m c 2 t) (iblk m c 3 t) (iblk m c 4 t) (iblk m c 5 t) := by
  rw [outAt_3 m c t hj]
  unfold run3
  refine (View.read_writes_full VO VO.junk _ _ []).trans ?_
  sl_open_run
  have hb : ∀ a, k0_off34 (grid0.coords t) a + S1x1072x768.size a ≤ S2x1072x768.size a := by rw [off_88 t hj]; decide
  refine Eq.trans ?_ (bodyVal_congr (mid_read c 1 (V m c main_arg0) (V m c main_v1) (V m c main_v3) (V m c main_v7) (bat t) 3) (win_read c 1 (V m c main_arg0) (V m c main_v1) (V m c main_v3) (V m c main_v7) (bat t) 3 _ (off_88 t hj) hb) ((View.readAt_full (ms_0 t).view _ inb_S768x768_S768x768_0_0).trans ((hs_0 t).read_unread (iblk m c 0 t))) ((View.readAt_full (ms_1 t).view _ inb_S768x768_S768x768_0_0).trans ((hs_1 t).read_unread (iblk m c 1 t))) ((View.readAt_full (ms_2 t).view _ inb_S768x768_S768x768_0_0).trans ((hs_2 t).read_unread (iblk m c 2 t))) ((View.readAt_full (ms_3 t).view _ inb_S768x768_S768x768_0_0).trans ((hs_3 t).read_unread (iblk m c 3 t))) ((View.readAt_full (ms_4 t).view _ inb_S1x768_S1x768_0_0).trans ((hs_4 t).read_unread (iblk m c 4 t))) ((View.readAt_full (ms_5 t).view _ inb_S1x3_S1x3_0_0).trans ((hs_5 t).read_unread (iblk m c 5 t))))
  rfl

end Cert.KernelIdeal.Anchor

end
-- ==== Proof.KernelIdeal.Host.lean ====
/- What the arrays read by the tiles hold: the first and last rows spread out, the edge rows, the weight's thirds. -/
module

public import proofs.«01_k».proof.Proof.KernelIdeal.Body
public import Idealize.ShloMosaic.PureOps.Ideal
public import Idealize.ShloMosaic.Lib.Pointwise
public import Idealize.ShloMosaic.Lib.Pipeline.Value
public import Idealize.ShloMosaic.Lib.StableHlo.Run

@[expose] public section

set_option maxRecDepth 16384

noncomputable section

namespace Cert.KernelIdeal.Anchor

open Idealize.ShloMosaic Idealize.ShloMosaic.TcCoe Idealize.ShloMosaic.Tactic
open Idealize.SL Idealize.SL.RA Idealize.SL.BI
open Idealize.ShloMosaic.StableHlo
open Cert.KernelIdeal.Gen

variable (m : (ℓ : Loc nD τ sig) → Buf (Elt Ideal) ℓ) (c : Dev nD)

section Arrays

theorem V_v1 : V m c main_v1 = broadcastInDim S2x16x768 ![0, 1, 2] bcast_S2x1x768_S2x16x768_0_1_2
    (extractStridedSlice S2x1x768 ![0, 0, 0] (m ((c : Thread nD τ).loc main_arg0) : S2x4096x768.Idx → Elt Ideal .f32) slices_S2x4096x768_S2x1x768_0_0_0) := by
  show StableHlo.after hostOps0 (fun b => m (c, b)) (Proc.devRef .tc main_v1) = _
  after_results_simp <;> rfl

theorem V_v3 : V m c main_v3 = broadcastInDim S2x16x768 ![0, 1, 2] bcast_S2x1x768_S2x16x768_0_1_2
    (extractStridedSlice S2x1x768 ![0, 4095, 0] (m ((c : Thread nD τ).loc main_arg0) : S2x4096x768.Idx → Elt Ideal .f32) slices_S2x4096x768_S2x1x768_0_4095_0) := by
  show StableHlo.after hostOps0 (fun b => m (c, b)) (Proc.devRef .tc main_v3) = _
  after_results_simp <;> rfl

theorem V_v8 : V m c main_v8 = extractStridedSlice S768x768 ![0, 0] (m ((c : Thread nD τ).loc main_arg1) : S2304x768.Idx → Elt Ideal .f32) slices_S2304x768_S768x768_0_0 := by
  show StableHlo.after hostOps0 (fun b => m (c, b)) (Proc.devRef .tc main_v8) = _
  after_results_simp <;> rfl
theorem V_v9 : V m c main_v9 = extractStridedSlice S768x768 ![768, 0] (m ((c : Thread nD τ).loc main_arg1) : S2304x768.Idx → Elt Ideal .f32) slices_S2304x768_S768x768_768_0 := by
  show StableHlo.after hostOps0 (fun b => m (c, b)) (Proc.devRef .tc main_v9) = _
  after_results_simp <;> rfl
theorem V_v10 : V m c main_v10 = extractStridedSlice S768x768 ![1536, 0] (m ((c : Thread nD τ).loc main_arg1) : S2304x768.Idx → Elt Ideal .f32) slices_S2304x768_S768x768_1536_0 := by
  show StableHlo.after hostOps0 (fun b => m (c, b)) (Proc.devRef .tc main_v10) = _
  after_results_simp <;> rfl
theorem V_v11 : V m c main_v11 = shapeCast S1x768 (m ((c : Thread nD τ).loc main_arg4) : S768.Idx → Elt Ideal .f32) shapeCasts_S768_S1x768 := by
  show StableHlo.after hostOps0 (fun b => m (c, b)) (Proc.devRef .tc main_v11) = _
  after_results_simp <;> rfl
theorem V_v12 : V m c main_v12 = shapeCast S1x3 (m ((c : Thread nD τ).loc main_arg5) : S3.Idx → Elt Ideal .f32) shapeCasts_S3_S1x3 := by
  show StableHlo.after hostOps0 (fun b => m (c, b)) (Proc.devRef .tc main_v12) = _
  after_results_simp <;> rfl
theorem V_v7 : V m c main_v7 = concatenate S2x16x768 1
    [⟨S2x1x768, extractStridedSlice S2x1x768 ![0, 0, 0] (m ((c : Thread nD τ).loc main_arg0) : S2x4096x768.Idx → Elt Ideal .f32) slices_S2x4096x768_S2x1x768_0_0_0⟩,
     ⟨S2x1x768, extractStridedSlice S2x1x768 ![0, 4095, 0] (m ((c : Thread nD τ).loc main_arg0) : S2x4096x768.Idx → Elt Ideal .f32) slices_S2x4096x768_S2x1x768_0_4095_0⟩,
     ⟨S2x14x768, broadcastInDim S2x14x768 ![] bcast_S_S2x14x768 (constant (F := Ideal) S_ .f32 0x00000000#32)⟩]
    concatenates_S2x1x768_S2x1x768_S2x14x768_S2x16x768_d1 := by
  show StableHlo.after hostOps0 (fun b => m (c, b)) (Proc.devRef .tc main_v7) = _
  after_results_simp <;> rfl

end Arrays

/-! At an index. -/

theorem v1_at (b : Fin 2) (r : Fin 16) (k : Fin 768) : (V m c main_v1 : S2x16x768.Idx → Elt Ideal .f32) (ix3 b r k) = (m ((c : Thread nD τ).loc main_arg0) : S2x4096x768.Idx → Elt Ideal .f32) (ix3 b 0 k) := by
  rw [V_v1]; pointwise
theorem v3_at (b : Fin 2) (r : Fin 16) (k : Fin 768) : (V m c main_v3 : S2x16x768.Idx → Elt Ideal .f32) (ix3 b r k) = (m ((c : Thread nD τ).loc main_arg0) : S2x4096x768.Idx → Elt Ideal .f32) (ix3 b ⟨4095, by decide⟩ k) := by
  rw [V_v3]; pointwise

theorem v7_at0 (b : Fin 2) (k : Fin 768) : (V m c main_v7 : S2x16x768.Idx → Elt Ideal .f32) (ix3 b 0 k) = (m ((c : Thread nD τ).loc main_arg0) : S2x4096x768.Idx → Elt Ideal .f32) (ix3 b 0 k) := by
  rw [V_v7]; pointwise
theorem v7_at1 (b : Fin 2) (k : Fin 768) : (V m c main_v7 : S2x16x768.Idx → Elt Ideal .f32) (ix3 b 1 k) = (m ((c : Thread nD τ).loc main_arg0) : S2x4096x768.Idx → Elt Ideal .f32) (ix3 b ⟨4095, by decide⟩ k) := by
  rw [V_v7]; pointwise
theorem v7_at2 (b : Fin 2) (r : Fin 16) (k : Fin 768) (h : 2 ≤ r.val) : (V m c main_v7 : S2x16x768.Idx → Elt Ideal .f32) (ix3 b r k) = ((0 : ℝ) : EReal) := by
  rw [V_v7]; pointwise
  rw [dif_neg (by omega), dif_neg (by omega)]; rfl
theorem v8_at (e d : Fin 768) : (V m c main_v8 : S768x768.Idx → Elt Ideal .f32) (ix2 e d) = (m ((c : Thread nD τ).loc main_arg1) : S2304x768.Idx → Elt Ideal .f32) (ix2 ⟨768 * 0 + e.val, by omega⟩ d) := by
  rw [V_v8]; pointwise
theorem v9_at (e d : Fin 768) : (V m c main_v9 : S768x768.Idx → Elt Ideal .f32) (ix2 e d) = (m ((c : Thread nD τ).loc main_arg1) : S2304x768.Idx → Elt Ideal .f32) (ix2 ⟨768 * 1 + e.val, by omega⟩ d) := by
  rw [V_v9]; pointwise
theorem v10_at (e d : Fin 768) : (V m c main_v10 : S768x768.Idx → Elt Ideal .f32) (ix2 e d) = (m ((c : Thread nD τ).loc main_arg1) : S2304x768.Idx → Elt Ideal .f32) (ix2 ⟨768 * 2 + e.val, by omega⟩ d) := by
  rw [V_v10]; pointwise
theorem v11_at (o : Fin 768) : (V m c main_v11 : S1x768.Idx → Elt Ideal .f32) (ix2 0 o) = (m ((c : Thread nD τ).loc main_arg4) : S768.Idx → Elt Ideal .f32) (ix1 o) := by
  rw [V_v11]; pointwise
theorem v12_at (i : Fin 3) : (V m c main_v12 : S1x3.Idx → Elt Ideal .f32) (ix2 0 i) = (m ((c : Thread nD τ).loc main_arg5) : S3.Idx → Elt Ideal .f32) (ix1 i) := by
  rw [V_v12]; pointwise

theorem blk_0 (t : Fin cfg0.N) : (iblk m c 0 t : S768x768.Idx → Elt Ideal .f32) = (V m c main_v8 : S768x768.Idx → Elt Ideal .f32) := by
  funext y
  refine (show _ = V m c main_v8 (((cfg0.win 0).blk t).view.emb y) from rfl).trans (congrArg (V m c main_v8) ?_)
  funext a; apply Fin.ext
  exact Pipeline.Window.rect_emb_val_of_index_zero win0_0 t a ((by decide +kernel : ∀ (t : Fin grid0.N) (a : Fin 2), win0_0.index t a = 0) t a) y
theorem blk_1 (t : Fin cfg0.N) : (iblk m c 1 t : S768x768.Idx → Elt Ideal .f32) = (V m c main_v9 : S768x768.Idx → Elt Ideal .f32) := by
  funext y
  refine (show _ = V m c main_v9 (((cfg0.win 1).blk t).view.emb y) from rfl).trans (congrArg (V m c main_v9) ?_)
  funext a; apply Fin.ext
  exact Pipeline.Window.rect_emb_val_of_index_zero win0_1 t a ((by decide +kernel : ∀ (t : Fin grid0.N) (a : Fin 2), win0_1.index t a = 0) t a) y
theorem blk_2 (t : Fin cfg0.N) : (iblk m c 2 t : S768x768.Idx → Elt Ideal .f32) = (V m c main_v10 : S768x768.Idx → Elt Ideal .f32) := by
  funext y
  refine (show _ = V m c main_v10 (((cfg0.win 2).blk t).view.emb y) from rfl).trans (congrArg (V m c main_v10) ?_)
  funext a; apply Fin.ext
  exact Pipeline.Window.rect_emb_val_of_index_zero win0_2 t a ((by decide +kernel : ∀ (t : Fin grid0.N) (a : Fin 2), win0_2.index t a = 0) t a) y
theorem blk_3 (t : Fin cfg0.N) : (iblk m c 3 t : S768x768.Idx → Elt Ideal .f32) = (V m c main_arg3 : S768x768.Idx → Elt Ideal .f32) := by
  funext y
  refine (show _ = V m c main_arg3 (((cfg0.win 3).blk t).view.emb y) from rfl).trans (congrArg (V m c main_arg3) ?_)
  funext a; apply Fin.ext
  exact Pipeline.Window.rect_emb_val_of_index_zero win0_3 t a ((by decide +kernel : ∀ (t : Fin grid0.N) (a : Fin 2), win0_3.index t a = 0) t a) y
theorem blk_4 (t : Fin cfg0.N) : (iblk m c 4 t : S1x768.Idx → Elt Ideal .f32) = (V m c main_v11 : S1x768.Idx → Elt Ideal .f32) := by
  funext y
  refine (show _ = V m c main_v11 (((cfg0.win 4).blk t).view.emb y) from rfl).trans (congrArg (V m c main_v11) ?_)
  funext a; apply Fin.ext
  exact Pipeline.Window.rect_emb_val_of_index_zero win0_4 t a ((by decide +kernel : ∀ (t : Fin grid0.N) (a : Fin 2), win0_4.index t a = 0) t a) y
theorem blk_5 (t : Fin cfg0.N) : (iblk m c 5 t : S1x3.Idx → Elt Ideal .f32) = (V m c main_v12 : S1x3.Idx → Elt Ideal .f32) := by
  funext y
  refine (show _ = V m c main_v12 (((cfg0.win 5).blk t).view.emb y) from rfl).trans (congrArg (V m c main_v12) ?_)
  funext a; apply Fin.ext
  exact Pipeline.Window.rect_emb_val_of_index_zero win0_5 t a ((by decide +kernel : ∀ (t : Fin grid0.N) (a : Fin 2), win0_5.index t a = 0) t a) y

theorem emb_6 (t : Fin cfg0.N) (y : S1x1024x768.Idx) : (((cfg0.win 6).blk t).view.emb y : S2x4096x768.Idx)
    = ix3 (bat t) ⟨1024 * (t.val % 4) + (y 1).val, by have := (y 1).isLt; change _ < 1024 at this; omega⟩ (y 2) := by
  funext a; apply Fin.ext
  refine (Pipeline.Window.rect_emb_val win0_6 t y a).trans ?_
  have h : ∀ (t : Fin grid0.N) (a : Fin 3), win0_6.index t a * win0_6.size a = (![(bat t).val, 1024 * (t.val % 4), 0] : Fin 3 → ℕ) a := by decide +kernel
  refine (congrArg (· + (y a : ℕ)) (h t a)).trans ?_
  match a with
  | ⟨0, _⟩ => have h0 := (y 0).isLt; change (y 0).val < 1 at h0; show (bat t).val + (y 0).val = (bat t).val; omega
  | ⟨1, _⟩ => rfl
  | ⟨2, _⟩ => exact Nat.zero_add _
theorem covers : (cfg0.win 6).Covers := by decide +kernel

end Cert.KernelIdeal.Anchor
-- ==== Proof.Value.Spec.lean ====
/- What both programs compute, as a function of real arrays, and the laws of extended reals used to reach it. -/
module

public import Idealize.ShloMosaic.PureOps.Ideal
public import Idealize.ShloMosaic.Lib.Pointwise

@[expose] public section

noncomputable section

namespace Cert.Anchor

open Idealize.ShloMosaic

/-! ## Constants and sums -/

theorem bits_eighth : Ideal.ofBits .f32 0x3E000000#32 = (((1 : ℝ) / 8 : ℝ) : EReal) := by
  simp [Ideal.ofBits, Ideal.ieee, -EReal.coe_mul]; norm_num
theorem bits_ninf : Ideal.ofBits .f32 0xFF800000#32 = ⊥ := by
  simp [Ideal.ofBits, Ideal.ieee]
theorem bits_inf : Ideal.ofBits .f32 0x7F800000#32 = ⊤ := by
  simp [Ideal.ofBits, Ideal.ieee]

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

/-- The greatest of finitely many reals, found from below all of them, is a real. -/
theorem fold_max_coe {n : ℕ} (f : Fin (n + 1) → ℝ) : ∃ M : ℝ, (Finset.univ : Finset (Fin (n + 1))).fold max ⊥ (fun k => ((f k : ℝ) : EReal)) = (M : EReal) := by
  suffices h : ∀ s : Finset (Fin (n + 1)), s.Nonempty → ∃ M : ℝ, s.fold max ⊥ (fun k => ((f k : ℝ) : EReal)) = (M : EReal) from h _ ⟨0, Finset.mem_univ _⟩
  intro s hs
  induction hs using Finset.Nonempty.cons_induction with
  | singleton a => exact ⟨f a, by simp⟩
  | cons a s ha hs ih =>
    obtain ⟨M, hM⟩ := ih
    exact ⟨max (f a) M, by rw [Finset.fold_cons, hM]; exact (EReal.coe_strictMono.monotone.map_max).symm⟩

theorem div_coe_coe (a b : ℝ) (h : b ≠ 0) : Ideal.div (a : EReal) (b : EReal) = ((a / b : ℝ) : EReal) := by
  rw [Ideal.div_coe h, ← EReal.coe_mul]; congr 1; ring
theorem log_coe_pos (a : ℝ) (h : 0 < a) : Ideal.log (a : EReal) = ((Real.log a : ℝ) : EReal) := by
  rw [Ideal.log_coe, if_neg (not_le.mpr h)]

/-! ## The function -/

/-- Row `i` of a sequence of 4096, held at its last one. -/
def clp (i : ℕ) : Fin 4096 := ⟨min i 4095, by omega⟩
/-- The twelve rows that row `s` attends to. -/
def anc (s : Fin 4096) (a : Fin 12) : Fin 4096 :=
  match a with
  | 0 => clp (s - 3) | 1 => clp (s - 2) | 2 => clp (s - 1) | 3 => clp (s + 1) | 4 => clp (s + 2) | 5 => clp (s + 3)
  | 6 => clp (s - 10) | 7 => clp (s - 5) | 8 => clp (s + 5) | 9 => clp (s + 10) | 10 => clp 0 | 11 => clp 4095
/-- The group each of them belongs to. -/
def grp (a : Fin 12) : Fin 3 := if a.val < 6 then 0 else if a.val < 10 then 1 else 2

variable (x : Fin 2 → Fin 4096 → Fin 768 → ℝ) (w : Fin 2304 → Fin 768 → ℝ) (g : Fin 3 → ℝ)

/-- Channel `e` of projection `p` of row `s`. -/
def prj (p : Fin 3) (b : Fin 2) (s : Fin 4096) (e : Fin 768) : ℝ := ∑ d : Fin 768, x b s d * w ⟨768 * p.val + e.val, by omega⟩ d
/-- Channel `d` of head `h`. -/
def chn (h : Fin 12) (d : Fin 64) : Fin 768 := ⟨64 * h.val + d.val, by omega⟩
def hd (c : Fin 768) : Fin 12 := ⟨c.val / 64, by omega⟩
/-- A group's weight, in logarithm. -/
def lw (i : Fin 3) : ℝ := g i - Real.log (∑ j : Fin 3, Real.exp (g j))
def score (b : Fin 2) (s : Fin 4096) (h : Fin 12) (a : Fin 12) : ℝ := (∑ d : Fin 64, prj x w 0 b s (chn h d) * prj x w 1 b (anc s a) (chn h d)) / 8
def es (b : Fin 2) (s : Fin 4096) (h : Fin 12) (a : Fin 12) : ℝ := Real.exp (score x w b s h a + lw g (grp a))
/-- The attention's channel `c` at row `s`. -/
def att (b : Fin 2) (s : Fin 4096) (c : Fin 768) : ℝ :=
  (∑ a : Fin 12, es x w g b s (hd c) a * prj x w 2 b (anc s a) c) / ∑ a : Fin 12, es x w g b s (hd c) a

/-- The output, its two last operands being any extended reals. -/
def out (wo : Fin 768 → Fin 768 → EReal) (bo : Fin 768 → EReal) (b : Fin 2) (s : Fin 4096) (o : Fin 768) : EReal :=
  (∑ c : Fin 768, ((att x w g b s c : ℝ) : EReal) * wo o c) + bo o

/-! ## Laws of the reals -/

theorem sum_exp_pos {n : ℕ} (f : Fin (n + 1) → ℝ) : 0 < ∑ j, Real.exp (f j) := Finset.sum_pos (fun _ _ => Real.exp_pos _) ⟨0, Finset.mem_univ _⟩

/-- The logarithm of a normalized exponential does not see what is taken from every argument. -/
theorem lw_shift (M : ℝ) (i : Fin 3) : g i - M - Real.log (∑ j : Fin 3, Real.exp (g j - M)) = lw g i := by
  unfold lw
  have : ∑ j : Fin 3, Real.exp (g j - M) = (∑ j : Fin 3, Real.exp (g j)) * Real.exp (-M) := by
    rw [Finset.sum_mul]; exact Finset.sum_congr rfl fun j _ => by rw [← Real.exp_add, sub_eq_add_neg]
  rw [this, Real.log_mul (sum_exp_pos g).ne' (Real.exp_ne_zero _), Real.log_exp]; ring
theorem lw_log (M : ℝ) (i : Fin 3) : Real.log (Real.exp (g i - M) / ∑ j : Fin 3, Real.exp (g j - M)) = lw g i := by
  rw [Real.log_div (Real.exp_ne_zero _) (sum_exp_pos fun j => g j - M).ne', Real.log_exp, lw_shift]
theorem soft_shift {n : ℕ} (f : Fin (n + 1) → ℝ) (M : ℝ) (i : Fin (n + 1)) :
    Real.exp (f i - M) / ∑ j, Real.exp (f j - M) = Real.exp (f i) / ∑ j, Real.exp (f j) := by
  have : ∀ j, Real.exp (f j - M) = Real.exp (f j) * Real.exp (-M) := fun j => by rw [← Real.exp_add, sub_eq_add_neg]
  simp only [this, ← Finset.sum_mul]
  exact mul_div_mul_right _ _ (Real.exp_ne_zero _)

/-- A sum over all channels that keeps one head's is the sum over that head's. -/
theorem sum_head (f : Fin 768 → ℝ) (h : Fin 12) :
    ∑ e : Fin 768, f e * (if e.val / 64 = h.val then (1 : ℝ) / 8 else 0) = (∑ d : Fin 64, f (chn h d)) / 8 := by
  have : ∀ e : Fin 768, f e * (if e.val / 64 = h.val then (1 : ℝ) / 8 else 0) = if e.val / 64 = h.val then f e * (1 / 8) else 0 := fun e => by split <;> simp
  simp only [this]
  rw [← Finset.sum_filter, Finset.sum_div]
  refine (Finset.sum_bij' (fun d _ => chn h d) (fun e _ => (⟨e.val % 64, by omega⟩ : Fin 64)) ?_ ?_ ?_ ?_ ?_).symm
  · intro d _; simp only [Finset.mem_filter, Finset.mem_univ, true_and, chn]; omega
  · intro e _; exact Finset.mem_univ _
  · intro d _; apply Fin.ext; simp only [chn]; omega
  · intro e he; simp only [Finset.mem_filter, Finset.mem_univ, true_and] at he; apply Fin.ext; simp only [chn]; omega
  · intro d _; exact div_eq_mul_one_div _ _

/-- A sum over the mask's columns that keeps one. -/
theorem sum_expand (f : Fin 16 → ℝ) (c : Fin 768) :
    ∑ h : Fin 16, f h * (if h.val = c.val / 64 then (1 : ℝ) else 0) = f ⟨c.val / 64, by omega⟩ := by
  rw [Finset.sum_eq_single (⟨c.val / 64, by omega⟩ : Fin 16)]
  · simp
  · intro h _ hh; rw [if_neg (fun e => hh (Fin.ext e)), mul_zero]
  · intro h; exact absurd (Finset.mem_univ _) h

end Cert.Anchor

end
-- ==== Proof.KernelIdeal.Pay.lean ====
/- The body's function at an index, for real operands: each payload read at an index, then the sum over the twelve taps. -/
module

public import proofs.«01_k».proof.Proof.KernelIdeal.Body
public import proofs.«01_k».proof.Proof.Value.Spec

@[expose] public section

set_option pp.maxSteps 1500

noncomputable section

namespace Cert.KernelIdeal.Anchor

open Idealize.ShloMosaic Cert.Anchor
open Cert.KernelIdeal.Gen

abbrev SV := FVec Ideal S1024x16 .f32
abbrev RV := FVec Ideal S1024x768 .f32
abbrev WV := FVec Ideal S1072x768 .f32

/-! ## The two masks -/

def q64 (e : Fin 768) : BitVec 32 := BitVec.ofNat 32 (e.val / 64)

theorem div64 : ∀ e : Fin 768, (Scalar.select
              (IntOp.andi
                (IntOp.cmpi CmpIPredicate.ne
                  (IntOp.subi (BitVec.setWidth 32 (IntOp.cmpi CmpIPredicate.sgt (BitVec.ofNat 32 e.val) 0#32))
                    (BitVec.setWidth 32 (IntOp.cmpi CmpIPredicate.slt (BitVec.ofNat 32 e.val) 0#32)))
                  (Scalar.subi (Scalar.extui (Scalar.cmpi CmpIPredicate.sgt 64#32 0#32))
                    (Scalar.extui (Scalar.cmpi CmpIPredicate.slt 64#32 0#32))))
                (IntOp.cmpi CmpIPredicate.ne (IntOp.remsi ArithUnit.vector (BitVec.ofNat 32 e.val) 64#32) 0#32))
              (IntOp.subi (IntOp.divsi ArithUnit.vector (BitVec.ofNat 32 e.val) 64#32) 1#32)
              (IntOp.divsi ArithUnit.vector (BitVec.ofNat 32 e.val) 64#32)) = q64 e := by
  decide +kernel

theorem eq64 : ∀ (e : Fin 768) (h : Fin 16), BitVec.setWidth 32 (IntOp.cmpi CmpIPredicate.eq (q64 e) (BitVec.ofNat 32 h.val)) = if e.val / 64 = h.val then 1#32 else 0#32 := by
  decide +kernel
theorem eq64' : ∀ (e : Fin 768) (h : Fin 16), BitVec.setWidth 32 (IntOp.cmpi CmpIPredicate.eq (BitVec.ofNat 32 h.val) (q64 e)) = if e.val / 64 = h.val then 1#32 else 0#32 := by
  decide +kernel

theorem sitofp_one : FloatOps.sitofp (F := Ideal) FTy.f32 (1#32) = (1 : EReal) := by
  show (((1#32 : BitVec 32).toInt : ℝ) : EReal) = 1
  norm_num
theorem sitofp_zero : FloatOps.sitofp (F := Ideal) FTy.f32 (0#32) = (0 : EReal) := by
  show (((0#32 : BitVec 32).toInt : ℝ) : EReal) = 0
  norm_num

/-- Which channels a head sums, an eighth of each. -/
def sm (e : Fin 768) (h : Fin 16) : ℝ := if e.val / 64 = h.val then 1 / 8 else 0
/-- Which channels a head's weight goes to. -/
def ex (h : Fin 16) (e : Fin 768) : ℝ := if h.val = e.val / 64 then 1 else 0

theorem summat_at (e : Fin 768) (h : Fin 16) : k0_pay6 (F := Ideal) (iota .tc S768x16 32 [0] iota_S768x16_d0_w32) (ix2 e h) = ((sm e h : ℝ) : EReal) := by
  pointwise [k0_pay6]
  rw [div64, eq64, bits_eighth]
  unfold sm
  split
  · rw [sitofp_one, one_mul]
  · rw [sitofp_zero, zero_mul, EReal.coe_zero]
theorem expand_at (h : Fin 16) (e : Fin 768) :
    k0_pay10 (F := Ideal) (iota .tc S16x768 32 [0] iota_S16x768_d0_w32) (iota .tc S16x768 32 [1] iota_S16x768_d1_w32) 64#32 k0_pay7 k0_pay8 k0_pay9 (ix2 h e) = ((ex h e : ℝ) : EReal) := by
  pointwise [k0_pay10, k0_pay7, k0_pay8, k0_pay9]
  rw [div64, eq64']
  unfold ex
  by_cases hh : e.val / 64 = h.val
  · rw [if_pos hh, if_pos hh.symm, sitofp_one, EReal.coe_one]
  · rw [if_neg hh, if_neg (fun k => hh k.symm), sitofp_zero, EReal.coe_zero]

/-! ## The projections and the group weights -/

theorem proj_q (Q : RV) (W : FVec Ideal S768x768 .f32) (q : Fin 1024 → Fin 768 → ℝ) (w : Fin 768 → Fin 768 → ℝ) (hQ : ∀ r d, Q (ix2 r d) = ((q r d : ℝ) : EReal)) (hW : ∀ e d, W (ix2 e d) = ((w e d : ℝ) : EReal)) (r : Fin 1024) (e : Fin 768) :
    k0_pay2 (F := Ideal) Q W (ix2 r e) = ((∑ d : Fin 768, q r d * w e d : ℝ) : EReal) := by
  pointwise [k0_pay2]
  rw [← sum_coe]; exact Finset.sum_congr rfl fun d _ => by rw [hQ, hW, EReal.coe_mul]
theorem proj_k (Q : FVec Ideal S1x1072x768 .f32) (W : FVec Ideal S768x768 .f32) (q : Fin 1072 → Fin 768 → ℝ) (w : Fin 768 → Fin 768 → ℝ) (hQ : ∀ r d, Q (ix3 0 r d) = ((q r d : ℝ) : EReal)) (hW : ∀ e d, W (ix2 e d) = ((w e d : ℝ) : EReal)) (r : Fin 1072) (e : Fin 768) :
    k0_pay3 (F := Ideal) Q W (ix2 r e) = ((∑ d : Fin 768, q r d * w e d : ℝ) : EReal) := by
  pointwise [k0_pay3]
  rw [← sum_coe]; exact Finset.sum_congr rfl fun d _ => by rw [hQ, hW, EReal.coe_mul]
theorem proj_v (Q : FVec Ideal S1x1072x768 .f32) (W : FVec Ideal S768x768 .f32) (q : Fin 1072 → Fin 768 → ℝ) (w : Fin 768 → Fin 768 → ℝ) (hQ : ∀ r d, Q (ix3 0 r d) = ((q r d : ℝ) : EReal)) (hW : ∀ e d, W (ix2 e d) = ((w e d : ℝ) : EReal)) (r : Fin 1072) (e : Fin 768) :
    k0_pay4 (F := Ideal) Q W (ix2 r e) = ((∑ d : Fin 768, q r d * w e d : ℝ) : EReal) := by
  pointwise [k0_pay4]
  rw [← sum_coe]; exact Finset.sum_congr rfl fun d _ => by rw [hQ, hW, EReal.coe_mul]

theorem lw_at (G : FVec Ideal S1x3 .f32) (g : Fin 3 → ℝ) (hG : ∀ i, G (ix2 0 i) = ((g i : ℝ) : EReal)) (i : Fin 3) : k0_pay5 (F := Ideal) G (ix2 0 i) = ((lw g i : ℝ) : EReal) := by
  pointwise [k0_pay5]
  obtain ⟨M, hM⟩ := fold_max_coe g
  simp only [hG, bits_ninf, hM]
  simp only [← EReal.coe_sub, Ideal.exp_coe, sum_coe]
  rw [log_coe_pos _ (sum_exp_pos fun j => g j - M), ← EReal.coe_sub, lw_shift]

/-! ## The taps -/

/-- The window's row of tap `a` for the tile's row `r`. -/
def tp (a : Fin 12) (r : Fin 1024) : Fin 1072 :=
  match a with
  | 0 => ⟨13 + r.val, by omega⟩ | 1 => ⟨14 + r.val, by omega⟩ | 2 => ⟨15 + r.val, by omega⟩ | 3 => ⟨17 + r.val, by omega⟩
  | 4 => ⟨18 + r.val, by omega⟩ | 5 => ⟨19 + r.val, by omega⟩ | 6 => ⟨6 + r.val, by omega⟩ | 7 => ⟨11 + r.val, by omega⟩
  | 8 => ⟨21 + r.val, by omega⟩ | 9 => ⟨26 + r.val, by omega⟩ | 10 => 1056 | 11 => 1057

section Taps
variable (Q : RV) (K V : WV) (M : FVec Ideal S768x16 .f32) (X : FVec Ideal S16x768 .f32) (G : FVec Ideal S1x3 .f32)
  (q : Fin 1024 → Fin 768 → ℝ) (k v : Fin 1072 → Fin 768 → ℝ) (l : Fin 3 → ℝ)

/-- Tap `a`'s weight for row `r` and head `h`, not yet normalized. -/
def ek (a : Fin 12) (r : Fin 1024) (h : Fin 16) : ℝ := Real.exp ((∑ e : Fin 768, q r e * k (tp a r) e * sm e h) + l (grp a))

theorem ek_pos (a : Fin 12) (r : Fin 1024) (h : Fin 16) : 0 < ek q k l a r h := Real.exp_pos _

section Scores
variable (hQ : ∀ r d, Q (ix2 r d) = ((q r d : ℝ) : EReal)) (hK : ∀ r d, K (ix2 r d) = ((k r d : ℝ) : EReal)) (hM : ∀ e h, M (ix2 e h) = ((sm e h : ℝ) : EReal))
  (hG : ∀ i, G (ix2 0 i) = ((l i : ℝ) : EReal))
include hQ hK hM hG

theorem ek_of (a : Fin 12) (r : Fin 1024) (h : Fin 16) (t : Fin 1072) (i : Fin 3) (ht : tp a r = t) (hi : grp a = i) :
    Ideal.exp (∑ x, Q (ix2 r x) * K (ix2 t x) * M (ix2 x h) + G (ix2 0 i)) = ((ek q k l a r h : ℝ) : EReal) := by
  subst ht hi
  have : (∑ x, Q (ix2 r x) * K (ix2 (tp a r) x) * M (ix2 x h)) = ((∑ e : Fin 768, q r e * k (tp a r) e * sm e h : ℝ) : EReal) := by
    rw [← sum_coe]; exact Finset.sum_congr rfl fun e _ => by rw [hQ, hK, hM, EReal.coe_mul, EReal.coe_mul]
  rw [this, hG, ← EReal.coe_add, Ideal.exp_coe]; rfl
theorem e_0 (r : Fin 1024) (h : Fin 16) : k0_pay35 (F := Ideal) G (k0_pay14 Q K M) (ix2 r h) = ((ek q k l 0 r h : ℝ) : EReal) := by
  pointwise [k0_pay35, k0_pay14]
  exact ek_of Q K M G q k l hQ hK hM hG 0 r h _ 0 rfl rfl
theorem e_1 (r : Fin 1024) (h : Fin 16) : k0_pay36 (F := Ideal) G (k0_pay16 Q K M) (ix2 r h) = ((ek q k l 1 r h : ℝ) : EReal) := by
  pointwise [k0_pay36, k0_pay16]
  exact ek_of Q K M G q k l hQ hK hM hG 1 r h _ 0 rfl rfl
theorem e_2 (r : Fin 1024) (h : Fin 16) : k0_pay37 (F := Ideal) G (k0_pay18 Q K M) (ix2 r h) = ((ek q k l 2 r h : ℝ) : EReal) := by
  pointwise [k0_pay37, k0_pay18]
  exact ek_of Q K M G q k l hQ hK hM hG 2 r h _ 0 rfl rfl
theorem e_3 (r : Fin 1024) (h : Fin 16) : k0_pay38 (F := Ideal) G (k0_pay20 Q K M) (ix2 r h) = ((ek q k l 3 r h : ℝ) : EReal) := by
  pointwise [k0_pay38, k0_pay20]
  exact ek_of Q K M G q k l hQ hK hM hG 3 r h _ 0 rfl rfl
theorem e_4 (r : Fin 1024) (h : Fin 16) : k0_pay39 (F := Ideal) G (k0_pay22 Q K M) (ix2 r h) = ((ek q k l 4 r h : ℝ) : EReal) := by
  pointwise [k0_pay39, k0_pay22]
  exact ek_of Q K M G q k l hQ hK hM hG 4 r h _ 0 rfl rfl
theorem e_5 (r : Fin 1024) (h : Fin 16) : k0_pay40 (F := Ideal) G (k0_pay24 Q K M) (ix2 r h) = ((ek q k l 5 r h : ℝ) : EReal) := by
  pointwise [k0_pay40, k0_pay24]
  exact ek_of Q K M G q k l hQ hK hM hG 5 r h _ 0 rfl rfl
theorem e_6 (r : Fin 1024) (h : Fin 16) : k0_pay41 (F := Ideal) G (k0_pay26 Q K M) (ix2 r h) = ((ek q k l 6 r h : ℝ) : EReal) := by
  pointwise [k0_pay41, k0_pay26]
  exact ek_of Q K M G q k l hQ hK hM hG 6 r h _ 1 rfl rfl
theorem e_7 (r : Fin 1024) (h : Fin 16) : k0_pay42 (F := Ideal) G (k0_pay28 Q K M) (ix2 r h) = ((ek q k l 7 r h : ℝ) : EReal) := by
  pointwise [k0_pay42, k0_pay28]
  exact ek_of Q K M G q k l hQ hK hM hG 7 r h _ 1 rfl rfl
theorem e_8 (r : Fin 1024) (h : Fin 16) : k0_pay43 (F := Ideal) G M (k0_pay30 Q K) (constant S1024x16 .f32 0x00000000#32) (ix2 r h) = ((ek q k l 8 r h : ℝ) : EReal) := by
  pointwise [k0_pay43, k0_pay30]
  exact ek_of Q K M G q k l hQ hK hM hG 8 r h _ 1 rfl rfl
theorem e_9 (r : Fin 1024) (h : Fin 16) : k0_pay44 (F := Ideal) Q K G M (ix2 r h) = ((ek q k l 9 r h : ℝ) : EReal) := by
  pointwise [k0_pay44]
  exact ek_of Q K M G q k l hQ hK hM hG 9 r h _ 1 rfl rfl
theorem e_10 (r : Fin 1024) (h : Fin 16) : k0_pay45 (F := Ideal) Q G M (k0_pay11 K) (ix2 r h) = ((ek q k l 10 r h : ℝ) : EReal) := by
  pointwise [k0_pay45, k0_pay11]
  exact ek_of Q K M G q k l hQ hK hM hG 10 r h _ 2 rfl rfl
theorem e_11 (r : Fin 1024) (h : Fin 16) : k0_pay46 (F := Ideal) G (k0_pay33 Q M (k0_pay12 K)) (ix2 r h) = ((ek q k l 11 r h : ℝ) : EReal) := by
  pointwise [k0_pay46, k0_pay33, k0_pay12]
  exact ek_of Q K M G q k l hQ hK hM hG 11 r h _ 2 rfl rfl
end Scores

theorem sum12 {A : Type*} [AddCommMonoid A] (f : Fin 12 → A) : ∑ a : Fin 12, f a = f 0 + f 1 + f 2 + f 3 + f 4 + f 5 + f 6 + f 7 + f 8 + f 9 + f 10 + f 11 := by
  simp only [Fin.sum_univ_castSucc, Fin.sum_univ_zero, zero_add]; rfl

section Total
variable (f : Fin 12 → Fin 1024 → Fin 16 → ℝ) (hf : ∀ a r h, 0 < f a r h) (s e0 e1 e2 e3 e4 e5 e6 e7 e8 e9 e10 : SV)
  (h0 : ∀ r h, e0 (ix2 r h) = ((f 0 r h : ℝ) : EReal))
  (h1 : ∀ r h, e1 (ix2 r h) = ((f 1 r h : ℝ) : EReal))
  (h2 : ∀ r h, e2 (ix2 r h) = ((f 2 r h : ℝ) : EReal))
  (h3 : ∀ r h, e3 (ix2 r h) = ((f 3 r h : ℝ) : EReal))
  (h4 : ∀ r h, e4 (ix2 r h) = ((f 4 r h : ℝ) : EReal))
  (h5 : ∀ r h, e5 (ix2 r h) = ((f 5 r h : ℝ) : EReal))
  (h6 : ∀ r h, e6 (ix2 r h) = ((f 6 r h : ℝ) : EReal))
  (h7 : ∀ r h, e7 (ix2 r h) = ((f 7 r h : ℝ) : EReal))
  (h8 : ∀ r h, e8 (ix2 r h) = ((f 8 r h : ℝ) : EReal))
  (h9 : ∀ r h, e9 (ix2 r h) = ((f 9 r h : ℝ) : EReal))
  (h10 : ∀ r h, e10 (ix2 r h) = ((f 10 r h : ℝ) : EReal))
  (h11 : ∀ r h, k0_pay46 (F := Ideal) G s (ix2 r h) = ((f 11 r h : ℝ) : EReal))
include hf h0 h1 h2 h3 h4 h5 h6 h7 h8 h9 h10 h11

theorem inv_at (r : Fin 1024) (h : Fin 16) :
    k0_pay47 (F := Ideal) G s e0 e1 e2 e3 e4 e5 e6 e7 e8 e9 e10 (ix2 r h) = ((1 / ∑ a, f a r h : ℝ) : EReal) := by
  pointwise [k0_pay47]
  rw [h0, h1, h2, h3, h4, h5, h6, h7, h8, h9, h10, h11]
  simp only [← EReal.coe_add]
  rw [← sum12 (fun a => f a r h), ← EReal.coe_one]
  exact div_coe_coe _ _ (Finset.sum_pos (fun a _ => hf a r h) ⟨0, Finset.mem_univ _⟩).ne'
end Total

theorem spread (hX : ∀ h e, X (ix2 h e) = ((ex h e : ℝ) : EReal)) (e : SV) (f : Fin 1024 → Fin 16 → ℝ) (he : ∀ r h, e (ix2 r h) = ((f r h : ℝ) : EReal)) (r : Fin 1024) (c : Fin 768) :
    ∑ x : Fin 16, e (ix2 r x) * X (ix2 x c) = ((f r ⟨c.val / 64, by omega⟩ : ℝ) : EReal) := by
  rw [← sum_expand (f r) c, ← sum_coe]
  exact Finset.sum_congr rfl fun h _ => by rw [he, hX, ← EReal.coe_mul]; rfl
end Taps

/-- The attention's channel `c` at row `r`, from the projections of a window. -/
def attK (q : Fin 1024 → Fin 768 → ℝ) (k v : Fin 1072 → Fin 768 → ℝ) (l : Fin 3 → ℝ) (r : Fin 1024) (c : Fin 768) : ℝ :=
  (∑ a : Fin 12, ek q k l a r ⟨c.val / 64, by omega⟩ * v (tp a r) c) / ∑ a : Fin 12, ek q k l a r ⟨c.val / 64, by omega⟩

section Core
variable (V : WV) (X : FVec Ideal S16x768 .f32) (G : FVec Ideal S1x3 .f32) (wo : FVec Ideal S768x768 .f32) (bo : FVec Ideal S1x768 .f32)
  (v : Fin 1072 → Fin 768 → ℝ) (f : Fin 12 → Fin 1024 → Fin 16 → ℝ) (s e0 e1 e2 e3 e4 e5 e6 e7 e8 e9 e10 : SV)

theorem core (hf : ∀ a r h, 0 < f a r h) (hV : ∀ r d, V (ix2 r d) = ((v r d : ℝ) : EReal)) (hX : ∀ h e, X (ix2 h e) = ((ex h e : ℝ) : EReal))
  (h0 : ∀ r h, e0 (ix2 r h) = ((f 0 r h : ℝ) : EReal))
  (h1 : ∀ r h, e1 (ix2 r h) = ((f 1 r h : ℝ) : EReal))
  (h2 : ∀ r h, e2 (ix2 r h) = ((f 2 r h : ℝ) : EReal))
  (h3 : ∀ r h, e3 (ix2 r h) = ((f 3 r h : ℝ) : EReal))
  (h4 : ∀ r h, e4 (ix2 r h) = ((f 4 r h : ℝ) : EReal))
  (h5 : ∀ r h, e5 (ix2 r h) = ((f 5 r h : ℝ) : EReal))
  (h6 : ∀ r h, e6 (ix2 r h) = ((f 6 r h : ℝ) : EReal))
  (h7 : ∀ r h, e7 (ix2 r h) = ((f 7 r h : ℝ) : EReal))
  (h8 : ∀ r h, e8 (ix2 r h) = ((f 8 r h : ℝ) : EReal))
  (h9 : ∀ r h, e9 (ix2 r h) = ((f 9 r h : ℝ) : EReal))
  (h10 : ∀ r h, e10 (ix2 r h) = ((f 10 r h : ℝ) : EReal))
  (h11 : ∀ r h, k0_pay46 (F := Ideal) G s (ix2 r h) = ((f 11 r h : ℝ) : EReal)) (r : Fin 1024) (o : Fin 768) :
    k0_pay1 (F := Ideal) X (k0_pay32 V) (k0_pay34 V) e10 (k0_pay46 G s) (k0_pay47 G s e0 e1 e2 e3 e4 e5 e6 e7 e8 e9 e10)
      (k0_pay48 X (k0_pay13 V) (k0_pay15 V) (k0_pay17 V) (k0_pay19 V) (k0_pay21 V) (k0_pay23 V) (k0_pay25 V) (k0_pay27 V) (k0_pay29 V) (k0_pay31 V) e0 e1 e2 e3 e4 e5 e6 e7 e8 e9) wo bo (ix3 0 r o)
      = (∑ c : Fin 768, (((∑ a : Fin 12, f a r ⟨c.val / 64, by omega⟩ * v (tp a r) c) / ∑ a : Fin 12, f a r ⟨c.val / 64, by omega⟩ : ℝ) : EReal) * wo (ix2 o c)) + bo (ix2 0 o) := by
  have hz := inv_at G f hf s e0 e1 e2 e3 e4 e5 e6 e7 e8 e9 e10 h0 h1 h2 h3 h4 h5 h6 h7 h8 h9 h10 h11
  pointwise [k0_pay1]
  congr 1
  refine Finset.sum_congr rfl fun c _ => ?_
  congr 1
  rw [spread X hX e10 _ h10, spread X hX _ _ h11, spread X hX _ (fun r h => 1 / ∑ a, f a r h) hz]
  pointwise [k0_pay48, k0_pay13, k0_pay15, k0_pay17, k0_pay19, k0_pay21, k0_pay23, k0_pay25, k0_pay27, k0_pay29, k0_pay31, k0_pay32, k0_pay34]
  rw [spread X hX e0 _ h0, spread X hX e1 _ h1, spread X hX e2 _ h2, spread X hX e3 _ h3, spread X hX e4 _ h4, spread X hX e5 _ h5,
    spread X hX e6 _ h6, spread X hX e7 _ h7, spread X hX e8 _ h8, spread X hX e9 _ h9]
  simp only [hV, ← EReal.coe_mul, ← EReal.coe_add]
  rw [sum12 (fun a => f a r ⟨c.val / 64, by omega⟩ * v (tp a r) c)]
  exact congrArg _ (mul_one_div _ _)
end Core

/-- The stored block at an index. -/
theorem bodyVal_at (Q : RV) (W : FVec Ideal S1x1072x768 .f32) (wq wk wv wo : FVec Ideal S768x768 .f32) (bo : FVec Ideal S1x768 .f32) (gs : FVec Ideal S1x3 .f32)
    (xq : Fin 1024 → Fin 768 → ℝ) (xw : Fin 1072 → Fin 768 → ℝ) (uq uk uv : Fin 768 → Fin 768 → ℝ) (g : Fin 3 → ℝ)
    (hQ : ∀ r d, Q (ix2 r d) = ((xq r d : ℝ) : EReal)) (hW : ∀ r d, W (ix3 0 r d) = ((xw r d : ℝ) : EReal))
    (hq : ∀ e d, wq (ix2 e d) = ((uq e d : ℝ) : EReal)) (hk : ∀ e d, wk (ix2 e d) = ((uk e d : ℝ) : EReal)) (hv : ∀ e d, wv (ix2 e d) = ((uv e d : ℝ) : EReal))
    (hg : ∀ i, gs (ix2 0 i) = ((g i : ℝ) : EReal)) (r : Fin 1024) (o : Fin 768) :
    bodyVal (F := Ideal) Q W wq wk wv wo bo gs (ix3 0 r o)
      = (∑ c : Fin 768, ((attK (fun r e => ∑ d, xq r d * uq e d) (fun r e => ∑ d, xw r d * uk e d) (fun r e => ∑ d, xw r d * uv e d) (lw g) r c : ℝ) : EReal) * wo (ix2 o c)) + bo (ix2 0 o) := by
  have HQ := proj_q Q wq xq uq hQ hq
  have HK := proj_k W wk xw uk hW hk
  have HV := proj_v W wv xw uv hW hv
  have HG := lw_at gs g hg
  exact core (k0_pay4 (F := Ideal) W wv) _ (k0_pay5 (F := Ideal) gs) wo bo (fun r e => ∑ d, xw r d * uv e d)
    (ek (fun r e => ∑ d, xq r d * uq e d) (fun r e => ∑ d, xw r d * uk e d) (lw g)) _ _ _ _ _ _ _ _ _ _ _ _ (ek_pos _ _ _) HV expand_at
    (e_0 _ _ _ _ _ _ _ HQ HK summat_at HG)
    (e_1 _ _ _ _ _ _ _ HQ HK summat_at HG)
    (e_2 _ _ _ _ _ _ _ HQ HK summat_at HG)
    (e_3 _ _ _ _ _ _ _ HQ HK summat_at HG)
    (e_4 _ _ _ _ _ _ _ HQ HK summat_at HG)
    (e_5 _ _ _ _ _ _ _ HQ HK summat_at HG)
    (e_6 _ _ _ _ _ _ _ HQ HK summat_at HG)
    (e_7 _ _ _ _ _ _ _ HQ HK summat_at HG)
    (e_8 _ _ _ _ _ _ _ HQ HK summat_at HG)
    (e_9 _ _ _ _ _ _ _ HQ HK summat_at HG)
    (e_10 _ _ _ _ _ _ _ HQ HK summat_at HG)
    (e_11 _ _ _ _ _ _ _ HQ HK summat_at HG) r o

end Cert.KernelIdeal.Anchor

end
-- ==== Proof.KernelIdeal.Final.lean ====
/- The kernel's result array: each tile's window holds the batch's rows about it, so each tile is the attention of its rows. -/
module

public import proofs.«01_k».proof.Proof.KernelIdeal.Host
public import proofs.«01_k».proof.Proof.KernelIdeal.Pay

@[expose] public section

set_option maxRecDepth 16384

noncomputable section

namespace Cert.KernelIdeal.Anchor

open Idealize.ShloMosaic Idealize.ShloMosaic.TcCoe Idealize.ShloMosaic.Tactic Cert.Anchor
open Cert.KernelIdeal.Gen

/-! ## A tile's rows and its taps, in the batch -/

section Rows
variable (x : Fin 2 → Fin 4096 → Fin 768 → ℝ) (w : Fin 2304 → Fin 768 → ℝ) (g : Fin 3 → ℝ) (b : Fin 2) (n : Fin 4)

/-- The row of the batch at row `r` of tile `n`. -/
def pos (n : Fin 4) (r : Fin 1024) : Fin 4096 := ⟨1024 * n.val + r.val, by omega⟩

/-- The window's rows: the batch's about the tile, kept inside the batch, then its first and last. -/
def row (r : Fin 1072) (d : Fin 768) : ℝ :=
  if r.val < 1056 then x b (clp (1024 * n.val + r.val - 16)) d else if r.val = 1056 then x b 0 d else if r.val = 1057 then x b ⟨4095, by decide⟩ d else 0

theorem row_of (r : Fin 1072) (s : Fin 4096) (h : r.val < 1056) (hs : min (1024 * n.val + r.val - 16) 4095 = s.val) (d : Fin 768) : row x b n r d = x b s d := by
  unfold row; rw [if_pos h]; exact congrArg (x b · d) (Fin.ext hs)

theorem tap (a : Fin 12) (r : Fin 1024) (d : Fin 768) : row x b n (tp a r) d = x b (anc (pos n r) a) d := by
  have hn := n.isLt; have hr := r.isLt
  match a with
  | 0 => exact row_of x b n _ _ (by show 13 + r.val < 1056; omega) (by show min (1024 * n.val + (13 + r.val) - 16) 4095 = min (1024 * n.val + r.val - 3) 4095; omega) d
  | 1 => exact row_of x b n _ _ (by show 14 + r.val < 1056; omega) (by show min (1024 * n.val + (14 + r.val) - 16) 4095 = min (1024 * n.val + r.val - 2) 4095; omega) d
  | 2 => exact row_of x b n _ _ (by show 15 + r.val < 1056; omega) (by show min (1024 * n.val + (15 + r.val) - 16) 4095 = min (1024 * n.val + r.val - 1) 4095; omega) d
  | 3 => exact row_of x b n _ _ (by show 17 + r.val < 1056; omega) (by show min (1024 * n.val + (17 + r.val) - 16) 4095 = min (1024 * n.val + r.val + 1) 4095; omega) d
  | 4 => exact row_of x b n _ _ (by show 18 + r.val < 1056; omega) (by show min (1024 * n.val + (18 + r.val) - 16) 4095 = min (1024 * n.val + r.val + 2) 4095; omega) d
  | 5 => exact row_of x b n _ _ (by show 19 + r.val < 1056; omega) (by show min (1024 * n.val + (19 + r.val) - 16) 4095 = min (1024 * n.val + r.val + 3) 4095; omega) d
  | 6 => exact row_of x b n _ _ (by show 6 + r.val < 1056; omega) (by show min (1024 * n.val + (6 + r.val) - 16) 4095 = min (1024 * n.val + r.val - 10) 4095; omega) d
  | 7 => exact row_of x b n _ _ (by show 11 + r.val < 1056; omega) (by show min (1024 * n.val + (11 + r.val) - 16) 4095 = min (1024 * n.val + r.val - 5) 4095; omega) d
  | 8 => exact row_of x b n _ _ (by show 21 + r.val < 1056; omega) (by show min (1024 * n.val + (21 + r.val) - 16) 4095 = min (1024 * n.val + r.val + 5) 4095; omega) d
  | 9 => exact row_of x b n _ _ (by show 26 + r.val < 1056; omega) (by show min (1024 * n.val + (26 + r.val) - 16) 4095 = min (1024 * n.val + r.val + 10) 4095; omega) d
  | 10 => rfl
  | 11 => rfl

theorem ek_es (a : Fin 12) (r : Fin 1024) (c : Fin 768) (hc : c.val / 64 < 16) :
    ek (fun r e => ∑ d, x b (pos n r) d * w ⟨768 * 0 + e.val, by omega⟩ d) (fun r e => ∑ d, row x b n r d * w ⟨768 * 1 + e.val, by omega⟩ d) (lw g) a r ⟨c.val / 64, hc⟩
      = es x w g b (pos n r) (hd c) a := by
  unfold ek es score
  congr 1
  refine congrArg (· + lw g (grp a)) ?_
  refine Eq.trans ?_ (sum_head (fun e => prj x w 0 b (pos n r) e * prj x w 1 b (anc (pos n r) a) e) (hd c))
  refine Finset.sum_congr rfl fun e _ => ?_
  have : (∑ d, row x b n (tp a r) d * w ⟨768 * 1 + e.val, by omega⟩ d) = prj x w 1 b (anc (pos n r) a) e := Finset.sum_congr rfl fun d _ => by rw [tap]; rfl
  beta_reduce; rw [this]; rfl

theorem attK_att (r : Fin 1024) (c : Fin 768) :
    attK (fun r e => ∑ d, x b (pos n r) d * w ⟨768 * 0 + e.val, by omega⟩ d) (fun r e => ∑ d, row x b n r d * w ⟨768 * 1 + e.val, by omega⟩ d)
        (fun r e => ∑ d, row x b n r d * w ⟨768 * 2 + e.val, by omega⟩ d) (lw g) r c
      = att x w g b (pos n r) c := by
  unfold attK att
  congr 1
  · refine Finset.sum_congr rfl fun a _ => ?_
    rw [ek_es]
    congr 1
    exact Finset.sum_congr rfl fun d _ => by rw [tap]; rfl
  · exact Finset.sum_congr rfl fun a _ => ek_es x w g b n a r c _

end Rows

variable (m : (ℓ : Loc nD τ sig) → Buf (Elt Ideal) ℓ) (c : Dev nD)
variable (x : Fin 2 → Fin 4096 → Fin 768 → ℝ) (w : Fin 2304 → Fin 768 → ℝ) (g : Fin 3 → ℝ)
  (hx : ∀ b s d, (m ((c : Thread nD τ).loc main_arg0) : S2x4096x768.Idx → Elt Ideal .f32) (ix3 b s d) = ((x b s d : ℝ) : EReal))
  (hw : ∀ e d, (m ((c : Thread nD τ).loc main_arg1) : S2304x768.Idx → Elt Ideal .f32) (ix2 e d) = ((w e d : ℝ) : EReal))
  (hg : ∀ i, (m ((c : Thread nD τ).loc main_arg5) : S3.Idx → Elt Ideal .f32) (ix1 i) = ((g i : ℝ) : EReal))

theorem ix3_eq {n0 n1 n2 : ℕ} (i : Fin n0) (j : Fin n1) (k : Fin n2) : (ValueIdx.ix3 i j k : (⟨3, ![n0, n1, n2]⟩ : Shape).Idx) = ix3 i j k := by
  funext a; fin_cases a <;> rfl

include hx in
theorem win_at (b : Fin 2) (n : Fin 4) (s : Fin 2) (r : Fin 1072) (d : Fin 768) :
    (winF c (V m c main_arg0) (V m c main_v1) (V m c main_v3) (V m c main_v7) b n : S2x1072x768.Idx → Elt Ideal .f32) (ValueIdx.ix3 s r d)
      = ((row x b n r d : ℝ) : EReal) := by
  have hr := r.isLt; have hn := n.isLt
  show (if r.val < 16 ∧ n.val = 0 then (V m c main_v1 : S2x16x768.Idx → Elt Ideal .f32) (ValueIdx.ix3 b ⟨r.val % 16, Nat.mod_lt _ (by decide)⟩ d)
    else if 1056 ≤ r.val then (V m c main_v7 : S2x16x768.Idx → Elt Ideal .f32) (ValueIdx.ix3 b ⟨(r.val - 1056) % 16, Nat.mod_lt _ (by decide)⟩ d)
    else if 1040 ≤ r.val ∧ n.val = 3 then (V m c main_v3 : S2x16x768.Idx → Elt Ideal .f32) (ValueIdx.ix3 b ⟨(r.val - 1040) % 16, Nat.mod_lt _ (by decide)⟩ d)
    else (V m c main_arg0 : S2x4096x768.Idx → Elt Ideal .f32) (ValueIdx.ix3 b ⟨(1024 * n.val + r.val - 16) % 4096, Nat.mod_lt _ (by decide)⟩ d)) = _
  simp only [ix3_eq]
  split_ifs with h1 h2 h3
  · rw [v1_at, hx]
    exact congrArg _ (row_of x b n r 0 (by omega) (by show _ = 0; omega) d).symm
  · unfold row
    rw [if_neg (by omega)]
    by_cases h4 : r.val = 1056
    · rw [if_pos h4, show (⟨(r.val - 1056) % 16, Nat.mod_lt _ (by decide)⟩ : Fin 16) = 0 from Fin.ext (by show _ = 0; dsimp only; omega), v7_at0, hx]
    · rw [if_neg h4]
      by_cases h5 : r.val = 1057
      · rw [if_pos h5, show (⟨(r.val - 1056) % 16, Nat.mod_lt _ (by decide)⟩ : Fin 16) = 1 from Fin.ext (by show _ = 1; dsimp only; omega), v7_at1, hx]
      · rw [if_neg h5, v7_at2 m c b _ d (by dsimp only; omega)]
  · rw [v3_at, hx]
    exact congrArg _ (row_of x b n r ⟨4095, by decide⟩ (by omega) (by dsimp only; omega) d).symm
  · rw [V_main_arg0, hx]
    exact congrArg _ (row_of x b n r _ (by omega) (by dsimp only; omega) d).symm

/-- The tile at a grid point. -/
def til (t : Fin grid0.N) : Fin 4 := ⟨t.val % 4, Nat.mod_lt _ (by decide)⟩

theorem read_all (t : Fin cfg0.N) : outAt m c t
    = bodyVal (midBlk c (V m c main_arg0) (V m c main_v1) (V m c main_v3) (V m c main_v7) (bat t) (til t)) (winBlk c (V m c main_arg0) (V m c main_v1) (V m c main_v3) (V m c main_v7) (bat t) (til t))
        (iblk m c 0 t) (iblk m c 1 t) (iblk m c 2 t) (iblk m c 3 t) (iblk m c 4 t) (iblk m c 5 t) := by
  have h4 : t.val % 4 = 0 ∨ t.val % 4 = 1 ∨ t.val % 4 = 2 ∨ t.val % 4 = 3 := by omega
  rcases h4 with h | h | h | h
  · rw [show til t = 0 from Fin.ext h]; exact read_0 m c t h
  · rw [show til t = 1 from Fin.ext h]; exact read_1 m c t h
  · rw [show til t = 2 from Fin.ext h]; exact read_2 m c t h
  · rw [show til t = 3 from Fin.ext h]; exact read_3 m c t h

/-- The result, of the argument arrays. -/
def result : S2x4096x768.Idx → Elt Ideal .f32 := fun i =>
  out x w g (fun o k => (m ((c : Thread nD τ).loc main_arg3) : S768x768.Idx → Elt Ideal .f32) (ix2 o k)) (fun o => (m ((c : Thread nD τ).loc main_arg4) : S768.Idx → Elt Ideal .f32) (ix1 o)) (i 0) (i 1) (i 2)

include hx hw hg in
theorem tile_at (t : Fin cfg0.N) (r : Fin 1024) (o : Fin 768) : (outAt m c t : S1x1024x768.Idx → Elt Ideal .f32) (ix3 0 r o)
    = result m c x w g (ix3 (bat t) (pos (til t) r) o) := by
  rw [read_all]
  refine (bodyVal_at _ _ _ _ _ _ _ _ (fun r d => x (bat t) (pos (til t) r) d) (row x (bat t) (til t)) (fun e d => w ⟨768 * 0 + e.val, by omega⟩ d)
    (fun e d => w ⟨768 * 1 + e.val, by omega⟩ d) (fun e d => w ⟨768 * 2 + e.val, by omega⟩ d) g ?_ ?_ ?_ ?_ ?_ ?_ r o).trans ?_
  · intro r d
    refine (win_at m c x hx (bat t) (til t) 0 ⟨16 + r.val, by omega⟩ d).trans ?_
    have hn := (til t).isLt
    exact congrArg _ (row_of x (bat t) (til t) _ _ (by dsimp only; omega) (by show _ = 1024 * (til t).val + r.val; dsimp only; omega) d)
  · intro r d
    exact win_at m c x hx (bat t) (til t) 0 r d
  · intro e d; rw [blk_0, v8_at, hw]
  · intro e d; rw [blk_1, v9_at, hw]
  · intro e d; rw [blk_2, v10_at, hw]
  · intro i; rw [blk_5, v12_at, hg]
  · unfold result out
    rw [blk_3, blk_4, v11_at, V_main_arg3]
    refine congrArg (· + _) (Finset.sum_congr rfl fun k _ => ?_)
    rw [attK_att]; rfl

include hx hw hg in
theorem final : (dats m 0 c).arrAt 6 cfg0.N = result m c x w g := by
  refine (dats m 0 c).arrAt_eq_of_covers 6 _ covers fun t hf y => ?_
  rw [emb_6]
  refine Eq.trans ?_ (tile_at m c x w g hx hw hg t (y 1) (y 2))
  blk_simp
  rw [after_6]
  exact congrArg (outAt m c t : S1x1024x768.Idx → Elt Ideal .f32) (by funext a; apply Fin.ext; match a with | ⟨0, _⟩ => (have h0 := (y 0).isLt; change (y 0).val < 1 at h0; show (y 0).val = 0; omega) | ⟨1, _⟩ => rfl | ⟨2, _⟩ => rfl)

variable (ρ : Dev nD → PrngReg)

/-- The run, its result read. -/
theorem run_value (x : (c : Dev nD) → Fin 2 → Fin 4096 → Fin 768 → ℝ) (w : (c : Dev nD) → Fin 2304 → Fin 768 → ℝ) (g : (c : Dev nD) → Fin 3 → ℝ)
    (hx : ∀ c b s d, (m ((c : Thread nD τ).loc main_arg0) : S2x4096x768.Idx → Elt Ideal .f32) (ix3 b s d) = ((x c b s d : ℝ) : EReal))
    (hw : ∀ c e d, (m ((c : Thread nD τ).loc main_arg1) : S2304x768.Idx → Elt Ideal .f32) (ix2 e d) = ((w c e d : ℝ) : EReal))
    (hg : ∀ c i, (m ((c : Thread nD τ).loc main_arg5) : S3.Idx → Elt Ideal .f32) (ix1 i) = ((g c i : ℝ) : EReal)) :
    θ_run (defs (F := Ideal)) (onTc (τ := τ) (main (F := Ideal))) ⟨m, fun _ => 0, ρ⟩ fun r => ∀ c : Dev nD,
      r.2.mem ((c : Thread nD τ).loc main_v13) = result m c (x c) (w c) (g c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun r h c => ⟨((h c).1 6).trans (final m c (x c) (w c) (g c) (hx c) (hw c) (hg c)),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩) (run_post m ρ)

end Cert.KernelIdeal.Anchor
-- ==== Proof.Value.RefReal.lean ====
/- The reference's projections and its groups' weights at an index, for real operands and no bias. -/
module

public import proofs.«01_k».proof.Proof.Gen.ReferenceIdeal.Run
public import proofs.«01_k».proof.Proof.Value.Spec

@[expose] public section

set_option maxRecDepth 16384
set_option pp.maxSteps 2500

noncomputable section

namespace Cert.ReferenceIdeal.Anchor

open Idealize.ShloMosaic Cert.Anchor
open Cert.ReferenceIdeal.Gen Cert.ReferenceIdeal.Value

variable (V : Valuation τ sig (Elt Ideal)) (x : Fin 2 → Fin 4096 → Fin 768 → ℝ) (w : Fin 2304 → Fin 768 → ℝ) (g : Fin 3 → ℝ)
  (hx : ∀ b s d, (V (Proc.devRef .tc main_arg0) : S2x4096x768.Idx → Elt Ideal .f32) (ix3 b s d) = ((x b s d : ℝ) : EReal))
  (hw : ∀ e d, (V (Proc.devRef .tc main_arg1) : S2304x768.Idx → Elt Ideal .f32) (ix2 e d) = ((w e d : ℝ) : EReal))
  (hb : ∀ e, (V (Proc.devRef .tc main_arg2) : S2304.Idx → Elt Ideal .f32) (ix1 e) = ((0 : ℝ) : EReal))
  (hg : ∀ i, (V (Proc.devRef .tc main_arg5) : S3.Idx → Elt Ideal .f32) (ix1 i) = ((g i : ℝ) : EReal))

include hx hw hb in
theorem qkv_at (p : Fin 3) (b : Fin 2) (h : Fin 12) (s : Fin 4096) (d : Fin 64) :
    (res_main_v6 V : S3x2x12x4096x64.Idx → Elt Ideal .f32) (ix5 p b h s d) = ((prj x w p b s (chn h d) : ℝ) : EReal) := by
  pointwise [res_main_v6]
  rw [hb]
  simp only [hx, hw]
  have e : ∀ i : Fin 2304, i.val = 768 * p.val + (64 * h.val + d.val) → (∑ k : Fin 768, (((x b s k : ℝ) : EReal) * ((w i k : ℝ) : EReal))) + ((0 : ℝ) : EReal)
      = ((prj x w p b s (chn h d) : ℝ) : EReal) := by
    intro i hi
    rw [EReal.coe_zero, add_zero]
    unfold prj
    rw [← sum_coe]
    refine Finset.sum_congr rfl fun k _ => ?_
    rw [← EReal.coe_mul]
    exact congrArg (fun z => ((x b s k * w z k : ℝ) : EReal)) (Fin.ext hi)
  exact e _ (by show p.val * 768 + h.val * 64 + d.val = 768 * p.val + (64 * h.val + d.val); omega)

theorem plane_1 (h : S1x2x12x4096x64.ShapeCasts S24x4096x64) (X : S3x2x12x4096x64.Idx → Elt Ideal .f32) (p : Fin 24) (s : Fin 4096) (d : Fin 64) :
    shapeCast S24x4096x64 (extractStridedSlice S1x2x12x4096x64 ![1, 0, 0, 0, 0] X slices_S3x2x12x4096x64_S1x2x12x4096x64_1_0_0_0_0) h (ix3 p s d)
      = X (ix5 1 ⟨p.val / 12, by omega⟩ ⟨p.val % 12, by omega⟩ s d) := by
  pointwise
theorem plane_2 (h : S1x2x12x4096x64.ShapeCasts S24x4096x64) (X : S3x2x12x4096x64.Idx → Elt Ideal .f32) (p : Fin 24) (s : Fin 4096) (d : Fin 64) :
    shapeCast S24x4096x64 (extractStridedSlice S1x2x12x4096x64 ![2, 0, 0, 0, 0] X slices_S3x2x12x4096x64_S1x2x12x4096x64_2_0_0_0_0) h (ix3 p s d)
      = X (ix5 2 ⟨p.val / 12, by omega⟩ ⟨p.val % 12, by omega⟩ s d) := by
  pointwise

include hg in
/-- A group's weight, its logarithm taken. -/
theorem group_at : ∃ M : ℝ, ∀ i : Fin 3, (res_main_v72 V : S3.Idx → Elt Ideal .f32) (ix1 i) = ((Real.exp (g i - M) : ℝ) : EReal) := by
  obtain ⟨M, hM⟩ := fold_max_coe g
  refine ⟨M, fun i => ?_⟩
  pointwise [res_main_v72]
  rw [bits_ninf]
  have hg' : (fun k : Fin 3 => (V (Proc.devRef .tc main_arg5) : S3.Idx → EReal) (ix1 k)) = fun k => ((g k : ℝ) : EReal) := funext hg
  have e := (Shape.ReducesTo.fold_fiber_r1_a0 reducesTo_S3_S_d0 ix0 (max : EReal → EReal → EReal) ⊥ (V (Proc.devRef .tc main_arg5) : S3.Idx → EReal)).trans
    ((congrArg (fun f : Fin 3 → EReal => (Finset.univ : Finset (Fin 3)).fold max ⊥ f) hg').trans hM)
  have fin : ∀ (a z : EReal), a = ((g i : ℝ) : EReal) → z = (M : EReal) → Ideal.exp (a - max ⊥ z) = ((Real.exp (g i - M) : ℝ) : EReal) := by
    rintro _ _ rfl rfl
    rw [max_eq_right bot_le, ← EReal.coe_sub, Ideal.exp_coe]
  exact fin _ _ (hg i) e

include hg in
theorem log_group (i : Fin 3) : Ideal.log ((res_main_v76 V : S3.Idx → Elt Ideal .f32) (ix1 i)) = ((lw g i : ℝ) : EReal) := by
  obtain ⟨M, hM⟩ := group_at V g hg
  pointwise [res_main_v76]
  simp only [hM]
  rw [sum_coe, div_coe_coe _ _ (sum_exp_pos fun j => g j - M).ne', log_coe_pos _ (div_pos (Real.exp_pos _) (sum_exp_pos fun j => g j - M)), lw_log]

end Cert.ReferenceIdeal.Anchor
-- ==== Proof.Value.Gather.lean ====
/- The reference's gather of rows at an index. -/
module

public import proofs.«01_k».proof.Proof.Gen.ReferenceIdeal
public import proofs.«01_k».proof.Proof.Value.Spec
public import Idealize.ShloMosaic.Lib.ValueIdxCore

@[expose] public section

set_option maxRecDepth 16384

noncomputable section

namespace Cert.ReferenceIdeal.Anchor

open Idealize.ShloMosaic Cert.Anchor
open Cert.ReferenceIdeal.Gen

/-- The reference's gather: at `(p, s, a, d)` the operand's row of number `idx[s, a, 0]`, held in range, of plane `p`. -/
theorem gather_at {α : Type} (x : S24x4096x64.Idx → α) (idx : IVec S4096x12x1 32) (p : Fin 24) (s : Fin 4096) (a : Fin 12) (d : Fin 64) :
    Host.gather gather_S24x4096x64_S4096x12x1_S24x4096x12x64_03_1_n_n_1_2_24164 x idx (ix4 p s a d)
      = x (ix3 p ⟨min (idx (ix3 s a 0)).toInt.toNat 4095, by omega⟩ d) := by
  unfold Host.gather
  congr 1
  funext i
  refine Fin.ext ?_
  show gather_S24x4096x64_S4096x12x1_S24x4096x12x64_03_1_n_n_1_2_24164.start (ix4 p s a d) idx i + gather_S24x4096x64_S4096x12x1_S24x4096x12x64_03_1_n_n_1_2_24164.batchCoord (ix4 p s a d) i
      + gather_S24x4096x64_S4096x12x1_S24x4096x12x64_03_1_n_n_1_2_24164.offCoord (ix4 p s a d) i = _
  have h : i = 0 ∨ i = 1 ∨ i = 2 := by
    match i with
    | ⟨0, _⟩ => exact Or.inl rfl
    | ⟨1, _⟩ => exact Or.inr (Or.inl rfl)
    | ⟨2, _⟩ => exact Or.inr (Or.inr rfl)
  rw [GatherDims.batchCoord_eq_zero _ _ _ (by intro h; exact absurd h List.not_mem_nil)]
  rcases h with rfl | rfl | rfl
  · unfold GatherDims.start
    rw [dif_neg (by decide)]
    unfold GatherDims.offCoord
    rw [dif_pos (by decide)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 3) ∈ gather_S24x4096x64_S4096x12x1_S24x4096x12x64_03_1_n_n_1_2_24164.startIndexMap from List.mem_singleton.mpr rfl)]
    have hsi : gather_S24x4096x64_S4096x12x1_S24x4096x12x64_03_1_n_n_1_2_24164.siIdx (ix4 p s a d) ⟨List.idxOf (1 : Fin 3) gather_S24x4096x64_S4096x12x1_S24x4096x12x64_03_1_n_n_1_2_24164.startIndexMap,
        List.idxOf_lt_length_iff.2 (List.mem_singleton.mpr rfl)⟩ = ix3 s a 0 := by
      funext b; refine Fin.ext ?_
      match b with
      | ⟨0, _⟩ => rfl
      | ⟨1, _⟩ => rfl
      | ⟨2, _⟩ => rfl
    rw [hsi]
    rfl
  · unfold GatherDims.start
    rw [dif_neg (by decide)]
    unfold GatherDims.offCoord
    rw [dif_pos (by decide)]
    simp only [Nat.zero_add]
    rfl

end Cert.ReferenceIdeal.Anchor
-- ==== Proof.Value.Anchors.lean ====
/- The reference's twelve row numbers at an index, that each is in range, and the row each gathers. -/
module

public import proofs.«01_k».proof.Proof.Gen.ReferenceIdeal.Run
public import proofs.«01_k».proof.Proof.Value.Spec
public import proofs.«01_k».proof.Proof.Value.Gather

@[expose] public section

set_option maxRecDepth 16384

noncomputable section

namespace Cert.ReferenceIdeal.Anchor

open Idealize.ShloMosaic Cert.Anchor
open Cert.ReferenceIdeal.Gen Cert.ReferenceIdeal.Value

/-- A row number as the program holds it. -/
def rowNum (i : Fin 4096) : BitVec 32 := BitVec.ofNat 32 i.val

variable (V : Valuation τ sig (Elt Ideal))

theorem anc_0 : ∀ s : Fin 4096, IntOp.minsi (4095#32) (IntOp.maxsi (0#32) (IntOp.addi (BitVec.ofNat 32 s.val) 4294967293#32)) = rowNum (anc s 0) := by decide +kernel
theorem anc_1 : ∀ s : Fin 4096, IntOp.minsi (4095#32) (IntOp.maxsi (0#32) (IntOp.addi (BitVec.ofNat 32 s.val) 4294967294#32)) = rowNum (anc s 1) := by decide +kernel
theorem anc_2 : ∀ s : Fin 4096, IntOp.minsi (4095#32) (IntOp.maxsi (0#32) (IntOp.addi (BitVec.ofNat 32 s.val) 4294967295#32)) = rowNum (anc s 2) := by decide +kernel
theorem anc_3 : ∀ s : Fin 4096, IntOp.minsi (4095#32) (IntOp.maxsi (0#32) (IntOp.addi (BitVec.ofNat 32 s.val) 1#32)) = rowNum (anc s 3) := by decide +kernel
theorem anc_4 : ∀ s : Fin 4096, IntOp.minsi (4095#32) (IntOp.maxsi (0#32) (IntOp.addi (BitVec.ofNat 32 s.val) 2#32)) = rowNum (anc s 4) := by decide +kernel
theorem anc_5 : ∀ s : Fin 4096, IntOp.minsi (4095#32) (IntOp.maxsi (0#32) (IntOp.addi (BitVec.ofNat 32 s.val) 3#32)) = rowNum (anc s 5) := by decide +kernel
theorem anc_6 : ∀ s : Fin 4096, IntOp.minsi (4095#32) (IntOp.maxsi (0#32) (IntOp.addi (BitVec.ofNat 32 s.val) 4294967286#32)) = rowNum (anc s 6) := by decide +kernel
theorem anc_7 : ∀ s : Fin 4096, IntOp.minsi (4095#32) (IntOp.maxsi (0#32) (IntOp.addi (BitVec.ofNat 32 s.val) 4294967291#32)) = rowNum (anc s 7) := by decide +kernel
theorem anc_8 : ∀ s : Fin 4096, IntOp.minsi (4095#32) (IntOp.maxsi (0#32) (IntOp.addi (BitVec.ofNat 32 s.val) 5#32)) = rowNum (anc s 8) := by decide +kernel
theorem anc_9 : ∀ s : Fin 4096, IntOp.minsi (4095#32) (IntOp.maxsi (0#32) (IntOp.addi (BitVec.ofNat 32 s.val) 10#32)) = rowNum (anc s 9) := by decide +kernel

theorem in_range : ∀ i : Fin 4096, IntOp.andi (IntOp.cmpi .sge (rowNum i) 0#32) (IntOp.cmpi .sle (rowNum i) 4095#32) = 1#1 := by decide +kernel
theorem not_neg : ∀ i : Fin 4096, Scalar.select (IntOp.cmpi .slt (rowNum i) 0#32) (IntOp.addi (rowNum i) 4096#32) (rowNum i) = rowNum i := by decide +kernel
theorem num_row : ∀ i : Fin 4096, min (rowNum i).toInt.toNat 4095 = i.val := by decide +kernel

theorem rows_at (s : Fin 4096) (a : Fin 12) : (res_main_v58 V : S4096x12.Idx → Elt Ideal .i32) (ix2 s a) = rowNum (anc s a) := by
  match a with
  | 0 => pointwise [res_main_v58, res_main_v13]; exact anc_0 s
  | 1 => pointwise [res_main_v58, res_main_v13]; exact anc_1 s
  | 2 => pointwise [res_main_v58, res_main_v13]; exact anc_2 s
  | 3 => pointwise [res_main_v58, res_main_v13]; exact anc_3 s
  | 4 => pointwise [res_main_v58, res_main_v13]; exact anc_4 s
  | 5 => pointwise [res_main_v58, res_main_v13]; exact anc_5 s
  | 6 => pointwise [res_main_v58, res_main_v13]; exact anc_6 s
  | 7 => pointwise [res_main_v58, res_main_v13]; exact anc_7 s
  | 8 => pointwise [res_main_v58, res_main_v13]; exact anc_8 s
  | 9 => pointwise [res_main_v58, res_main_v13]; exact anc_9 s
  | 10 => pointwise [res_main_v58, res_main_v13]; first | done | rfl
  | 11 => pointwise [res_main_v58, res_main_v13]; first | done | rfl

theorem idx_k (s : Fin 4096) (a : Fin 12) : (res_main_call10_v5 V : S4096x12x1.Idx → Elt Ideal .i32) (ix3 s a 0) = rowNum (anc s a) := by
  pointwise [res_main_call10_v5]
  rw [rows_at]; exact not_neg _
theorem idx_v (s : Fin 4096) (a : Fin 12) : (res_main_call11_v5 V : S4096x12x1.Idx → Elt Ideal .i32) (ix3 s a 0) = rowNum (anc s a) := by
  pointwise [res_main_call11_v5]
  rw [rows_at]; exact not_neg _

theorem gather_row {α : Type} (x : S24x4096x64.Idx → α) (idx : IVec S4096x12x1 32) (p : Fin 24) (s : Fin 4096) (a : Fin 12) (d : Fin 64) (i : Fin 4096)
    (h : idx (ix3 s a 0) = rowNum i) : Host.gather gather_S24x4096x64_S4096x12x1_S24x4096x12x64_03_1_n_n_1_2_24164 x idx (ix4 p s a d) = x (ix3 p i d) := by
  rw [gather_at]
  exact congrArg (fun z => x (ix3 p z d)) (Fin.ext (by show min (idx (ix3 s a 0)).toInt.toNat 4095 = _; rw [h]; exact num_row i))

/-- Every row number is in range, so the range check is true at each. -/
theorem mask_at (idx : IVec S4096x12x1 32) (s : Fin 4096) (a : Fin 12) (h : idx (ix3 s a 0) = rowNum (anc s a)) :
    (Finset.univ.filter (fun i => reducesTo_S4096x12x1_S4096x12_d2.drop i = ix2 s a)).fold IntOp.andi 1#1
      (fun x => IntOp.andi (IntOp.cmpi .sge (idx x) 0#32) (IntOp.cmpi .sle (idx x) 4095#32)) = 1#1 := by
  rw [Shape.ReducesTo.fold_fiber_r3_a2]
  rw [show (Finset.univ : Finset (Fin 1)) = {0} from rfl, Finset.fold_singleton]
  refine (congrArg (fun z => IntOp.andi z (1#1)) ((congrArg (fun z => IntOp.andi (IntOp.cmpi .sge z 0#32) (IntOp.cmpi .sle z 4095#32)) h).trans (in_range _))).trans ?_
  decide

end Cert.ReferenceIdeal.Anchor
-- ==== Proof.Value.Scores.lean ====
/- The reference's scores and its weights over the twelve rows, at an index. -/
module

public import proofs.«01_k».proof.Proof.Value.RefReal
public import proofs.«01_k».proof.Proof.Value.Anchors

@[expose] public section

set_option maxRecDepth 16384
set_option pp.maxSteps 3500

noncomputable section

namespace Cert.ReferenceIdeal.Anchor

open Idealize.ShloMosaic Cert.Anchor
open Cert.ReferenceIdeal.Gen Cert.ReferenceIdeal.Value

variable (V : Valuation τ sig (Elt Ideal)) (x : Fin 2 → Fin 4096 → Fin 768 → ℝ) (w : Fin 2304 → Fin 768 → ℝ) (g : Fin 3 → ℝ)
  (hx : ∀ b s d, (V (Proc.devRef .tc main_arg0) : S2x4096x768.Idx → Elt Ideal .f32) (ix3 b s d) = ((x b s d : ℝ) : EReal))
  (hw : ∀ e d, (V (Proc.devRef .tc main_arg1) : S2304x768.Idx → Elt Ideal .f32) (ix2 e d) = ((w e d : ℝ) : EReal))
  (hb : ∀ e, (V (Proc.devRef .tc main_arg2) : S2304.Idx → Elt Ideal .f32) (ix1 e) = ((0 : ℝ) : EReal))
  (hg : ∀ i, (V (Proc.devRef .tc main_arg5) : S3.Idx → Elt Ideal .f32) (ix1 i) = ((g i : ℝ) : EReal))

/-- A plane's batch and head. -/
def pb (p : Fin 24) : Fin 2 := ⟨p.val / 12, by omega⟩
def ph (p : Fin 24) : Fin 12 := ⟨p.val % 12, by omega⟩

/-- A score with its group's weight. -/
def sl (p : Fin 24) (s : Fin 4096) (a : Fin 12) : ℝ := score x w (pb p) s (ph p) a + lw g (grp a)

theorem ite_grp (f : Fin 3 → EReal) (a : Fin 12) (P Q : Prop) [Decidable P] [Decidable Q] (hP : P ↔ a.val < 6) (hQ : Q ↔ a.val - 6 < 4) :
    (if P then f 0 else if Q then f 1 else f 2) = f (grp a) := by
  unfold grp
  by_cases h : a.val < 6
  · rw [if_pos (hP.mpr h), if_pos h]
  · rw [if_neg (fun z => h (hP.mp z)), if_neg h]
    by_cases h' : a.val < 10
    · rw [if_pos (hQ.mpr (by omega)), if_pos h']
    · rw [if_neg (fun z => h' (by have := hQ.mp z; omega)), if_neg h']

theorem score_of (A B : Fin 64 → EReal) (k : BitVec 1) (z L : EReal) (fa fb : Fin 64 → ℝ) (l : ℝ) (hA : ∀ d, A d = ((fa d : ℝ) : EReal)) (hk : k = 1#1)
    (hB : ∀ d, B d = ((fb d : ℝ) : EReal)) (hL : L = ((l : ℝ) : EReal)) :
    (∑ d, A d * Scalar.select k (B d) z) * (((1 / 8 : ℝ)) : EReal) + L = (((∑ d, fa d * fb d) / 8 + l : ℝ) : EReal) := by
  subst hk hL
  have : ∀ d, A d * Scalar.select 1#1 (B d) z = ((fa d * fb d : ℝ) : EReal) := fun d => by rw [hA, EReal.coe_mul, ← hB]; rfl
  simp only [this]
  rw [sum_coe, ← EReal.coe_mul, ← EReal.coe_add]
  congr 2; ring

include hx hw hb hg in
theorem score_at (p : Fin 24) (s : Fin 4096) (a : Fin 12) : (res_main_v96 V : S24x4096x12.Idx → Elt Ideal .f32) (ix3 p s a) = ((sl x w g p s a : ℝ) : EReal) := by
  pointwise [res_main_v96]
  simp only [gather_row _ _ _ _ _ _ _ (idx_k V s a), bits_eighth]
  refine score_of _ _ _ _ _ (fun d => prj x w 0 (pb p) s (chn (ph p) d)) (fun d => prj x w 1 (pb p) (anc s a) (chn (ph p) d)) _ (fun d => qkv_at V x w hx hw hb 0 (pb p) (ph p) s d)
    (mask_at (res_main_call10_v5 V) s a (idx_k V s a)) (fun d => (plane_1 _ _ p (anc s a) d).trans (qkv_at V x w hx hw hb 1 (pb p) (ph p) (anc s a) d)) ?_
  refine (congrArg Ideal.log (ite_grp (fun i => (res_main_v76 V : S3.Idx → EReal) (ix1 i)) a (a.val < 6) (a.val - 6 < 4) Iff.rfl Iff.rfl)).trans (log_group V g hg _)

include hx hw hb hg in
theorem weight_at (p : Fin 24) (s : Fin 4096) (a : Fin 12) : ∃ M : ℝ, ∀ a, (res_main_v103 V : S24x4096x12.Idx → Elt Ideal .f32) (ix3 p s a) = ((Real.exp (sl x w g p s a - M) : ℝ) : EReal) := by
  obtain ⟨M, hM⟩ := fold_max_coe (sl x w g p s)
  refine ⟨M, fun a => ?_⟩
  pointwise [res_main_v103]
  rw [bits_ninf]
  have hg' : (fun k : Fin 12 => (res_main_v96 V : S24x4096x12.Idx → EReal) (ix3 p s k)) = fun k => ((sl x w g p s k : ℝ) : EReal) := funext fun k => score_at V x w g hx hw hb hg p s k
  have e := (Shape.ReducesTo.fold_fiber_r3_a2 reducesTo_S24x4096x12_S24x4096_d2 (ix2 p s) (max : EReal → EReal → EReal) ⊥ (res_main_v96 V : S24x4096x12.Idx → EReal)).trans
    ((congrArg (fun f : Fin 12 → EReal => (Finset.univ : Finset (Fin 12)).fold max ⊥ f) hg').trans hM)
  have fin : ∀ (a z : EReal) (r : ℝ), a = (r : EReal) → z = (M : EReal) → Ideal.exp (a - max ⊥ z) = ((Real.exp (r - M) : ℝ) : EReal) := by
    rintro _ _ r rfl rfl
    rw [max_eq_right bot_le, ← EReal.coe_sub, Ideal.exp_coe]
  exact fin _ _ _ (score_at V x w g hx hw hb hg p s a) e

/-- A weight over the twelve rows. -/
def sw (p : Fin 24) (s : Fin 4096) (a : Fin 12) : ℝ := Real.exp (sl x w g p s a) / ∑ j, Real.exp (sl x w g p s j)

include hx hw hb hg in
theorem soft_at (p : Fin 24) (s : Fin 4096) (a : Fin 12) : (res_main_v107 V : S24x4096x12.Idx → Elt Ideal .f32) (ix3 p s a) = ((sw x w g p s a : ℝ) : EReal) := by
  obtain ⟨M, hM⟩ := weight_at V x w g hx hw hb hg p s a
  pointwise [res_main_v107]
  simp only [hM]
  rw [sum_coe, div_coe_coe _ _ (sum_exp_pos fun j => sl x w g p s j - M).ne', soft_shift]; rfl

include hx hw hb hg in
theorem nonan_at (p : Fin 24) (s : Fin 4096) (a : Fin 12) : (res_main_call12_v2 V : S24x4096x12.Idx → Elt Ideal .f32) (ix3 p s a) = ((sw x w g p s a : ℝ) : EReal) := by
  pointwise [res_main_call12_v2]
  simp only [soft_at V x w g hx hw hb hg]
  simp
include hx hw hb hg in
theorem noinf_at (p : Fin 24) (s : Fin 4096) (a : Fin 12) : (res_main_call12_v5 V : S24x4096x12.Idx → Elt Ideal .f32) (ix3 p s a) = ((sw x w g p s a : ℝ) : EReal) := by
  pointwise [res_main_call12_v5]
  simp only [nonan_at V x w g hx hw hb hg, bits_inf]
  simp

end Cert.ReferenceIdeal.Anchor
-- ==== Proof.Value.Attend.lean ====
/- The reference's attention at an index: the weights' sum of the twelve rows. -/
module

public import proofs.«01_k».proof.Proof.Value.Scores

@[expose] public section

set_option maxRecDepth 16384
set_option pp.maxSteps 3500

noncomputable section

namespace Cert.ReferenceIdeal.Anchor

open Idealize.ShloMosaic Cert.Anchor
open Cert.ReferenceIdeal.Gen Cert.ReferenceIdeal.Value

variable (V : Valuation τ sig (Elt Ideal)) (x : Fin 2 → Fin 4096 → Fin 768 → ℝ) (w : Fin 2304 → Fin 768 → ℝ) (g : Fin 3 → ℝ)
  (hx : ∀ b s d, (V (Proc.devRef .tc main_arg0) : S2x4096x768.Idx → Elt Ideal .f32) (ix3 b s d) = ((x b s d : ℝ) : EReal))
  (hw : ∀ e d, (V (Proc.devRef .tc main_arg1) : S2304x768.Idx → Elt Ideal .f32) (ix2 e d) = ((w e d : ℝ) : EReal))
  (hb : ∀ e, (V (Proc.devRef .tc main_arg2) : S2304.Idx → Elt Ideal .f32) (ix1 e) = ((0 : ℝ) : EReal))
  (hg : ∀ i, (V (Proc.devRef .tc main_arg5) : S3.Idx → Elt Ideal .f32) (ix1 i) = ((g i : ℝ) : EReal))

/-- The weights, kept finite. -/
def wgtTerm : FVec Ideal S24x4096x12 .f32 :=
  (select (cmpf .oeq (res_main_call12_v5 V) (broadcastInDim S24x4096x12 ![] bcast_S_S24x4096x12 (constant S_ .f32 0xFF800000#32))) (broadcastInDim S24x4096x12 ![] bcast_S_S24x4096x12 (constant S_ .f32 0xFF7FFFFF#32)) (res_main_call12_v5 V))
/-- The twelve rows' values. -/
def valTerm : FVec Ideal S24x4096x12x64 .f32 :=
  (select (broadcastInDim S24x4096x12x64 ![1, 2] bcast_S4096x12_S24x4096x12x64_1_2 (Host.reduce IntOp.andi (andi (cmpi .sge (res_main_call11_v5 V) (broadcastInDim S4096x12x1 ![] bcast_S_S4096x12x1 (constantI S_ 32 0#32))) (cmpi .sle (res_main_call11_v5 V) (broadcastInDim S4096x12x1 ![0, 1, 2] bcast_S1x1x1_S4096x12x1_0_1_2 (broadcastInDim S1x1x1 ![2] bcast_S1_S1x1x1_2 (constantI S1 32 4095#32))))) (constantI S_ 1 1#1) reducesTo_S4096x12x1_S4096x12_d2 h_S_)) (Host.gather gather_S24x4096x64_S4096x12x1_S24x4096x12x64_03_1_n_n_1_2_24164 (shapeCast _ (shapeCast _ (extractStridedSlice S1x2x12x4096x64 ![2, 0, 0, 0, 0] (res_main_v6 V) slices_S3x2x12x4096x64_S1x2x12x4096x64_2_0_0_0_0) shapeCasts_S1x2x12x4096x64_S2x12x4096x64) shapeCasts_S2x12x4096x64_S24x4096x64) (res_main_call11_v5 V)) (broadcastInDim S24x4096x12x64 ![] bcast_S_S24x4096x12x64 (constant S_ .f32 0x7FC00000#32)))
/-- The attention of weights and values. -/
def attTerm (A : FVec Ideal S24x4096x12 .f32) (B : FVec Ideal S24x4096x12x64 .f32) : FVec Ideal S24x4096x64 .f32 :=
  Host.dotGeneral dot_S24x4096x12_S24x4096x12x64_S24x4096x64_2_2_n_3_01_01 none A B

include hx hw hb hg in
theorem wgt_at (p : Fin 24) (s : Fin 4096) (a : Fin 12) : wgtTerm V (ix3 p s a) = ((sw x w g p s a : ℝ) : EReal) := by
  pointwise [wgtTerm]
  simp only [noinf_at V x w g hx hw hb hg, bits_ninf]
  simp

include hx hw hb in
theorem val_at (p : Fin 24) (s : Fin 4096) (a : Fin 12) (d : Fin 64) : valTerm V (ix4 p s a d) = ((prj x w 2 (pb p) (anc s a) (chn (ph p) d) : ℝ) : EReal) := by
  pointwise [valTerm]
  rw [gather_row _ _ _ _ _ _ _ (idx_v V s a)]
  have sel : ∀ (k : BitVec 1) (y z : EReal) (r : ℝ), k = 1#1 → y = (r : EReal) → Scalar.select k y z = (r : EReal) := by rintro _ _ z r rfl rfl; rfl
  exact sel _ _ _ _ (mask_at (res_main_call11_v5 V) s a (idx_v V s a)) ((plane_2 _ _ p (anc s a) d).trans (qkv_at V x w hx hw hb 2 (pb p) (ph p) (anc s a) d))

theorem sum_at (A : FVec Ideal S24x4096x12 .f32) (B : FVec Ideal S24x4096x12x64 .f32) (p : Fin 24) (s : Fin 4096) (d : Fin 64) :
    attTerm A B (ix3 p s d) = ∑ a : Fin 12, A (ix3 p s a) * B (ix4 p s a d) := by
  pointwise [attTerm]

include hx hw hb hg in
theorem att_at (p : Fin 24) (s : Fin 4096) (d : Fin 64) : attTerm (wgtTerm V) (valTerm V) (ix3 p s d) = ((att x w g (pb p) s (chn (ph p) d) : ℝ) : EReal) := by
  rw [sum_at]
  simp only [wgt_at V x w g hx hw hb hg, val_at V x w hx hw hb, ← EReal.coe_mul]
  rw [sum_coe]
  congr 1
  have hh : hd (chn (ph p) d) = ph p := Fin.ext (by show (64 * (ph p).val + d.val) / 64 = (ph p).val; omega)
  unfold att
  rw [Finset.sum_div, hh]
  refine Finset.sum_congr rfl fun a _ => ?_
  unfold sw sl es
  ring

end Cert.ReferenceIdeal.Anchor
-- ==== Proof.Value.Project.lean ====
/- The reference's last projection at an index. -/
module

public import proofs.«01_k».proof.Proof.Value.RefReal

@[expose] public section

set_option maxRecDepth 16384
set_option pp.maxSteps 3500

noncomputable section

namespace Cert.ReferenceIdeal.Anchor

open Idealize.ShloMosaic Cert.Anchor
open Cert.ReferenceIdeal.Gen Cert.ReferenceIdeal.Value

/-- The heads put side by side and projected. -/
def projTerm (T : FVec Ideal S24x4096x64 .f32) (wo : FVec Ideal S768x768 .f32) (bo : FVec Ideal S768 .f32) : S2x4096x768.Idx → Elt Ideal .f32 :=
  addf (Host.dotGeneral dot_S2x4096x768_S768x768_S2x4096x768_2_0_01_1_n_n none (shapeCast S2x4096x768 (transpose S2x4096x12x64 [0, 2, 1, 3] (shapeCast _ T shapeCasts_S24x4096x64_S2x12x4096x64) transposes_S2x12x4096x64_S2x4096x12x64_0_2_1_3) shapeCasts_S2x4096x12x64_S2x4096x768) (transpose S768x768 [1, 0] wo transposes_S768x768_S768x768_1_0)) (broadcastInDim S2x4096x768 ![0, 1, 2] bcast_S1x1x768_S2x4096x768_0_1_2 (broadcastInDim S1x1x768 ![2] bcast_S768_S1x1x768_2 bo))

set_option maxHeartbeats 1000000 in
theorem proj_at (T : FVec Ideal S24x4096x64 .f32) (wo : FVec Ideal S768x768 .f32) (bo : FVec Ideal S768 .f32) (b : Fin 2) (s : Fin 4096) (o : Fin 768) :
    projTerm T wo bo (ix3 b s o) = (∑ k : Fin 768, T (ix3 ⟨b.val * 12 + k.val / 64, by omega⟩ s ⟨k.val % 64, by omega⟩) * wo (ix2 o k)) + bo (ix1 o) := by
  pointwise [projTerm]

end Cert.ReferenceIdeal.Anchor
-- ==== Proof.Value.Reference.lean ====
/- The reference's run, its result read: the attention of the twelve rows, projected. -/
module

public import proofs.«01_k».proof.Proof.Value.Attend
public import proofs.«01_k».proof.Proof.Value.Project

@[expose] public section

set_option maxRecDepth 16384

noncomputable section

namespace Cert.ReferenceIdeal.Anchor

open Idealize.ShloMosaic Idealize.ShloMosaic.TcCoe Idealize.SL.Sem Idealize.ShloMosaic.StableHlo Cert.Anchor
open Cert.ReferenceIdeal.Gen Cert.ReferenceIdeal.Value

section Value
variable (V : Valuation τ sig (Elt Ideal)) (x : Fin 2 → Fin 4096 → Fin 768 → ℝ) (w : Fin 2304 → Fin 768 → ℝ) (g : Fin 3 → ℝ)
  (hx : ∀ b s d, (V (Proc.devRef .tc main_arg0) : S2x4096x768.Idx → Elt Ideal .f32) (ix3 b s d) = ((x b s d : ℝ) : EReal))
  (hw : ∀ e d, (V (Proc.devRef .tc main_arg1) : S2304x768.Idx → Elt Ideal .f32) (ix2 e d) = ((w e d : ℝ) : EReal))
  (hb : ∀ e, (V (Proc.devRef .tc main_arg2) : S2304.Idx → Elt Ideal .f32) (ix1 e) = ((0 : ℝ) : EReal))
  (hg : ∀ i, (V (Proc.devRef .tc main_arg5) : S3.Idx → Elt Ideal .f32) (ix1 i) = ((g i : ℝ) : EReal))

include hx hw hb hg in
theorem res_at (wo : FVec Ideal S768x768 .f32) (bo : FVec Ideal S768 .f32) (b : Fin 2) (s : Fin 4096) (o : Fin 768) :
    projTerm (attTerm (wgtTerm V) (valTerm V)) wo bo (ix3 b s o) = out x w g (fun o k => wo (ix2 o k)) (fun o => bo (ix1 o)) b s o := by
  rw [proj_at]
  unfold out
  refine congrArg (· + bo (ix1 o)) (Finset.sum_congr rfl fun k _ => ?_)
  rw [att_at V x w g hx hw hb hg]
  have h1 : pb ⟨b.val * 12 + k.val / 64, by omega⟩ = b := Fin.ext (by show (b.val * 12 + k.val / 64) / 12 = b.val; omega)
  have h2 : chn (ph ⟨b.val * 12 + k.val / 64, by omega⟩) ⟨k.val % 64, by omega⟩ = k :=
    Fin.ext (by show 64 * ((b.val * 12 + k.val / 64) % 12) + k.val % 64 = k.val; omega)
  rw [h1, h2]
end Value

variable (m : (ℓ : Loc nD τ sig) → Buf (Elt Ideal) ℓ) (ρ : Dev nD → PrngReg)

/-- The result, of the argument arrays. -/
def result (c : Dev nD) (x : Fin 2 → Fin 4096 → Fin 768 → ℝ) (w : Fin 2304 → Fin 768 → ℝ) (g : Fin 3 → ℝ) : S2x4096x768.Idx → Elt Ideal .f32 := fun i =>
  out x w g (fun o k => (m ((c : Thread nD τ).loc main_arg3) : S768x768.Idx → Elt Ideal .f32) (ix2 o k)) (fun o => (m ((c : Thread nD τ).loc main_arg4) : S768.Idx → Elt Ideal .f32) (ix1 o)) (i 0) (i 1) (i 2)

theorem run_value (x : (c : Dev nD) → Fin 2 → Fin 4096 → Fin 768 → ℝ) (w : (c : Dev nD) → Fin 2304 → Fin 768 → ℝ) (g : (c : Dev nD) → Fin 3 → ℝ)
    (hx : ∀ c b s d, (m ((c : Thread nD τ).loc main_arg0) : S2x4096x768.Idx → Elt Ideal .f32) (ix3 b s d) = ((x c b s d : ℝ) : EReal))
    (hw : ∀ c e d, (m ((c : Thread nD τ).loc main_arg1) : S2304x768.Idx → Elt Ideal .f32) (ix2 e d) = ((w c e d : ℝ) : EReal))
    (hb : ∀ (c : Dev nD) (e : Fin 2304), (m ((c : Thread nD τ).loc main_arg2) : S2304.Idx → Elt Ideal .f32) (ix1 e) = ((0 : ℝ) : EReal))
    (hg : ∀ c i, (m ((c : Thread nD τ).loc main_arg5) : S3.Idx → Elt Ideal .f32) (ix1 i) = ((g c i : ℝ) : EReal)) :
    θ_run (defs (F := Ideal)) (onTc (τ := τ) (main (F := Ideal))) ⟨m, fun _ => 0, ρ⟩ fun r => ∀ c : Dev nD,
      r.2.mem ((c : Thread nD τ).loc main_v117) = result m c (x c) (w c) (g c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun r h c => ⟨(h c).1.trans (funext fun i => by
      have hi : i = (ix3 (i 0) (i 1) (i 2) : S2x4096x768.Idx) := by funext a; fin_cases a <;> rfl
      rw [hi]
      exact res_at (launchContents m c) (x c) (w c) (g c) (hx c) (hw c) (hb c) (hg c) (m ((c : Thread nD τ).loc main_arg3)) (m ((c : Thread nD τ).loc main_arg4)) (i 0) (i 1) (i 2)), (h c).2⟩)
    (Cert.ReferenceIdeal.Value.run m ρ)

end Cert.ReferenceIdeal.Anchor
-- ==== Proof.Value.Finite.lean ====
/- What the precondition says: `x`, the projections' weights and the groups' are reals, the projections' bias zero. -/
module

public import proofs.«01_k».proof.Defs
public import proofs.«01_k».proof.Proof.Value.Spec

@[expose] public section

noncomputable section

namespace Cert.Pre_finite_unbiased

open Idealize.ShloMosaic Cert.Anchor

theorem facts : Facts where
  bcast_S_S2x4096x768 := by decide
  bcast_S_S2304x768 := by decide
  bcast_S_S2304 := by decide
  bcast_S_S3 := by decide

theorem real_of (v : Ideal .f32) (h : BitVec.ofBool (decide (FloatOps.absf v < Ideal.ofBits .f32 0x7F800000#32)) = 1#1) : ∃ r : ℝ, (v : EReal) = (r : EReal) := by
  rw [bits_inf] at h
  have h : max (v : EReal) (-(v : EReal)) < ⊤ := by
    by_contra hn
    have hd : decide (FloatOps.absf v < (⊤ : EReal)) = false := decide_eq_false hn
    rw [hd] at h
    exact absurd h (by decide)
  have fin : ∀ a : EReal, max a (-a) < ⊤ → ∃ r : ℝ, a = (r : EReal) := by
    intro a h
    induction a using EReal.rec with
    | bot => simp at h
    | coe r => exact ⟨r, rfl⟩
    | top => simp at h
  exact fin v h

variable [Facts] (x : FVec Ideal S2x4096x768 .f32) (w : FVec Ideal S2304x768 .f32) (b : FVec Ideal S2304 .f32) (wo : FVec Ideal S768x768 .f32) (bo : FVec Ideal S768 .f32) (g : FVec Ideal S3 .f32)

theorem x_real (h : (fn (F := Ideal) x w b wo bo g).1 = fun _ => 1#1) (i j k) : ∃ r : ℝ, x (ix3 i j k) = (r : EReal) := by
  have := congrFun h (ix3 i j k)
  pointwise [fn] at this
  exact real_of _ this

theorem w_real (h : (fn (F := Ideal) x w b wo bo g).2.1 = fun _ => 1#1) (i j) : ∃ r : ℝ, w (ix2 i j) = (r : EReal) := by
  have := congrFun h (ix2 i j)
  pointwise [fn] at this
  exact real_of _ this

theorem b_zero (h : (fn (F := Ideal) x w b wo bo g).2.2.1 = fun _ => 1#1) (i) : b (ix1 i) = ((0 : ℝ) : EReal) := by
  have := congrFun h (ix1 i)
  pointwise [fn] at this
  by_contra hn
  have hd : decide (b (ix1 i) = 0) = false := decide_eq_false hn
  rw [hd] at this
  exact absurd this (by decide)

theorem g_real (h : (fn (F := Ideal) x w b wo bo g).2.2.2 = fun _ => 1#1) (i) : ∃ r : ℝ, g (ix1 i) = (r : EReal) := by
  have := congrFun h (ix1 i)
  pointwise [fn] at this
  exact real_of _ this

end Cert.Pre_finite_unbiased
-- ==== Proof.lean ====
/- The proof of the claims: the frames and the values. -/
module

public import proofs.«01_k».proof.Defs
public import proofs.«01_k».proof.Proof.Kernel.Frame
public import proofs.«01_k».proof.Proof.KernelIdeal.Frame
public import proofs.«01_k».proof.Proof.Gen.ReferenceIdeal
public import proofs.«01_k».proof.Proof.Gen.ReferenceIdeal.Run
public import proofs.«01_k».proof.Proof.KernelIdeal.Final
public import proofs.«01_k».proof.Proof.Value.Reference
public import proofs.«01_k».proof.Proof.Value.Finite
public import Idealize.ShloMosaic.Lib.Quiescent

@[expose] public section

noncomputable section

namespace Cert.Proof

open Idealize.ShloMosaic Idealize.SL.Sem

/-- The reference runs, leaves its arguments, and has no semaphores. -/
theorem reference_frame : quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- On real `x`, projections' weights and groups' weights, and a zero projections' bias, the kernel's result is the reference's. -/
theorem value : algebraic_KernelIdeal_ReferenceIdeal_pre_finite_unbiased (hKernelIdeal := Cert.KernelIdeal.Gen.facts)
    (hReferenceIdeal := Cert.ReferenceIdeal.Gen.facts) (hPre_finite_unbiased := Cert.Pre_finite_unbiased.facts) := by
  intro m g m' g' hpre hagree
  letI : Cert.Pre_finite_unbiased.Facts := Cert.Pre_finite_unbiased.facts
  choose x hx using fun c => Cert.Pre_finite_unbiased.x_real _ _ _ _ _ _ (hpre c).1
  choose w hw using fun c => Cert.Pre_finite_unbiased.w_real _ _ _ _ _ _ (hpre c).2.1
  choose s hs using fun c => Cert.Pre_finite_unbiased.g_real _ _ _ _ _ _ (hpre c).2.2.2
  have hb := fun c => Cert.Pre_finite_unbiased.b_zero _ _ _ _ _ _ (hpre c).2.2.1
  refine ⟨fun c => Cert.KernelIdeal.Anchor.result m c (x c) (w c) (s c), Cert.KernelIdeal.Anchor.run_value m g x w s hx hw hs, ?_⟩
  refine (θ_run _ _ _).mono (fun r h c => ⟨(h c).1.trans ?_, (h c).2⟩) (Cert.ReferenceIdeal.Anchor.run_value m' g' x w s
    (fun c b t d => (congrFun (hagree c).1 _).trans (hx c b t d)) (fun c e d => (congrFun (hagree c).2.1 _).trans (hw c e d))
    (fun c e => (congrFun (hagree c).2.2.1 _).trans (hb c e)) (fun c i => (congrFun (hagree c).2.2.2.2.2 _).trans (hs c i)))
  obtain ⟨-, -, -, h3, h4, -⟩ := hagree c
  unfold Cert.ReferenceIdeal.Anchor.result Cert.KernelIdeal.Anchor.result
  funext i
  congr 1
  · funext o k; exact congrFun h3 _
  · funext o; exact congrFun h4 _

theorem claim : Cert.Claim :=
  ⟨Cert.Kernel.Gen.facts, Cert.KernelIdeal.Gen.facts, Cert.ReferenceIdeal.Gen.facts, Cert.Pre_finite_unbiased.facts,
    fun m g _ => Cert.Kernel.Anchor.frame m g, fun m g _ => Cert.KernelIdeal.Anchor.frame m g, fun m g _ => Cert.KernelIdeal.Anchor.frame m g,
    reference_frame, fun m g _ => reference_frame m g trivial, trivial, value⟩

end Cert.Proof

end
